-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x6 : Shape := ⟨2, ![16384, 6]⟩
abbrev S100000x128 : Shape := ⟨2, ![100000, 128]⟩
abbrev S768x128 : Shape := ⟨2, ![768, 128]⟩
abbrev S128 : Shape := ⟨1, ![128]⟩
abbrev S128x91 : Shape := ⟨2, ![128, 91]⟩
abbrev S91 : Shape := ⟨1, ![91]⟩
abbrev S_ : Shape := ⟨0, ![]⟩

class Facts : Prop where
  bcast_S_S16384x6 : S_.BroadcastsInDim S16384x6 (![] : Fin 0 → Fin S16384x6.rank)
  reducesTo_S16384x6_S_d0_1 : S16384x6.ReducesTo [0, 1] S_
  h_S_ : 0 < S_.numel

variable [Facts]

def fn {F : FTy → Type} [FloatOps F] (main_arg0 : IVec S16384x6 32) (main_arg1 : FVec F S100000x128 .f32) (main_arg2 : FVec F S768x128 .f32) (main_arg3 : FVec F S128 .f32) (main_arg4 : FVec F S128x91 .f32) (main_arg5 : FVec F S91 .f32) : IVec S_ 1 :=
  let main_c : IVec S_ 32 := constantI S_ 32 0#32
  let main_v0 : IVec S16384x6 32 := broadcastInDim S16384x6 ![] bcast_S_S16384x6 main_c
  let main_v1 : IVec S16384x6 1 := cmpi .sge main_arg0 main_v0
  let main_c_0 : IVec S_ 32 := constantI S_ 32 100000#32
  let main_v2 : IVec S16384x6 32 := broadcastInDim S16384x6 ![] bcast_S_S16384x6 main_c_0
  let main_v3 : IVec S16384x6 1 := cmpi .slt main_arg0 main_v2
  let main_v4 : IVec S16384x6 1 := andi main_v1 main_v3
  let main_c_1 : IVec S_ 1 := constantI S_ 1 1#1
  let main_v5 : IVec S_ 1 := (fun x v => Host.reduce IntOp.andi x v reducesTo_S16384x6_S_d0_1 h_S_) main_v4 main_c_1
  main_v5
-- ==== Kernel.lean ====
abbrev S16384x6 : Shape := ⟨2, ![16384, 6]⟩
abbrev S100000x128 : Shape := ⟨2, ![100000, 128]⟩
abbrev S768x128 : Shape := ⟨2, ![768, 128]⟩
abbrev S128 : Shape := ⟨1, ![128]⟩
abbrev S128x91 : Shape := ⟨2, ![128, 91]⟩
abbrev S91 : Shape := ⟨1, ![91]⟩
abbrev S98304 : Shape := ⟨1, ![98304]⟩
abbrev S98304x128 : Shape := ⟨2, ![98304, 128]⟩
abbrev S3072 : Shape := ⟨1, ![3072]⟩
abbrev S512x128 : Shape := ⟨2, ![512, 128]⟩
abbrev S_ : Shape := ⟨0, ![]⟩
abbrev S512 : Shape := ⟨1, ![512]⟩
abbrev S16384x768 : Shape := ⟨2, ![16384, 768]⟩
abbrev S1x128 : Shape := ⟨2, ![1, 128]⟩
abbrev S1x91 : Shape := ⟨2, ![1, 91]⟩
abbrev S16384x91 : Shape := ⟨2, ![16384, 91]⟩
abbrev S1024x768 : Shape := ⟨2, ![1024, 768]⟩
abbrev S1024x91 : Shape := ⟨2, ![1024, 91]⟩
abbrev S1024x128 : Shape := ⟨2, ![1024, 128]⟩
abbrev S1024 : Shape := ⟨1, ![1024]⟩
abbrev S1024x1 : Shape := ⟨2, ![1024, 1]⟩

abbrev nBuf : Table → Nat
  | .hbm => 12
  | .local .tc .vmem => 8
  | .local .scVector .vmem => 3
  | _ => 0

abbrev bufTy : (tb : Table) → Fin (nBuf tb) → BufTy
  | .hbm, ⟨0, _⟩ => ⟨S16384x6, .i32⟩
  | .hbm, ⟨1, _⟩ => ⟨S100000x128, .f32⟩
  | .hbm, ⟨2, _⟩ => ⟨S768x128, .f32⟩
  | .hbm, ⟨3, _⟩ => ⟨S128, .f32⟩
  | .hbm, ⟨4, _⟩ => ⟨S128x91, .f32⟩
  | .hbm, ⟨5, _⟩ => ⟨S91, .f32⟩
  | .hbm, ⟨6, _⟩ => ⟨S98304, .i32⟩
  | .hbm, ⟨7, _⟩ => ⟨S98304x128, .f32⟩
  | .hbm, ⟨8, _⟩ => ⟨S16384x768, .f32⟩
  | .hbm, ⟨9, _⟩ => ⟨S1x128, .f32⟩
  | .hbm, ⟨10, _⟩ => ⟨S1x91, .f32⟩
  | .hbm, ⟨11, _⟩ => ⟨S16384x91, .f32⟩
  | .local .tc .vmem, ⟨0, _⟩ => ⟨S1024x768, .f32⟩
  | .local .tc .vmem, ⟨1, _⟩ => ⟨S1024x768, .f32⟩
  | .local .tc .vmem, ⟨2, _⟩ => ⟨S768x128, .f32⟩
  | .local .tc .vmem, ⟨3, _⟩ => ⟨S1x128, .f32⟩
  | .local .tc .vmem, ⟨4, _⟩ => ⟨S128x91, .f32⟩
  | .local .tc .vmem, ⟨5, _⟩ => ⟨S1x91, .f32⟩
  | .local .tc .vmem, ⟨6, _⟩ => ⟨S1024x91, .f32⟩
  | .local .tc .vmem, ⟨7, _⟩ => ⟨S1024x91, .f32⟩
  | .local .scVector .vmem, ⟨0, _⟩ => ⟨S3072, .i32⟩
  | .local .scVector .vmem, ⟨1, _⟩ => ⟨S512x128, .f32⟩
  | .local .scVector .vmem, ⟨2, _⟩ => ⟨S512x128, .f32⟩
  | _, _ => ⟨S16384x6, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg1_scv : Ref sig .scVector := ⟨.hbm, 1, rfl⟩
abbrev main_v0_scv : Ref sig .scVector := ⟨.hbm, 6, rfl⟩
abbrev main_v1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  ![v2.toNat]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v9 : BitVec 32 := Scalar.addi v2 c0_i32_7
  let c0_i32_36_r1 : BitVec 32 := 0#32
  ![v9.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x91 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x91 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x91 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x6 : Shape := ⟨2, ![16384, 6]⟩
abbrev S100000x128 : Shape := ⟨2, ![100000, 128]⟩
abbrev S768x128 : Shape := ⟨2, ![768, 128]⟩
abbrev S128 : Shape := ⟨1, ![128]⟩
abbrev S128x91 : Shape := ⟨2, ![128, 91]⟩
abbrev S91 : Shape := ⟨1, ![91]⟩
abbrev S_ : Shape := ⟨0, ![]⟩
abbrev S16384x6x1 : Shape := ⟨3, ![16384, 6, 1]⟩
abbrev S1 : Shape := ⟨1, ![1]⟩
abbrev S1x1x1 : Shape := ⟨3, ![1, 1, 1]⟩
abbrev S16384x6x128 : Shape := ⟨3, ![16384, 6, 128]⟩
abbrev S16384x768 : Shape := ⟨2, ![16384, 768]⟩
abbrev S16384x128 : Shape := ⟨2, ![16384, 128]⟩
abbrev S1x128 : Shape := ⟨2, ![1, 128]⟩
abbrev S16384x91 : Shape := ⟨2, ![16384, 91]⟩
abbrev S1x91 : Shape := ⟨2, ![1, 91]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x6, .i32⟩
  | .hbm, ⟨1, _⟩ => ⟨S100000x128, .f32⟩
  | .hbm, ⟨2, _⟩ => ⟨S768x128, .f32⟩
  | .hbm, ⟨3, _⟩ => ⟨S128, .f32⟩
  | .hbm, ⟨4, _⟩ => ⟨S128x91, .f32⟩
  | .hbm, ⟨5, _⟩ => ⟨S91, .f32⟩
  | .hbm, ⟨6, _⟩ => ⟨S_, .i32⟩
  | .hbm, ⟨7, _⟩ => ⟨S16384x6, .i32⟩
  | .hbm, ⟨8, _⟩ => ⟨S16384x6, .i1⟩
  | .hbm, ⟨9, _⟩ => ⟨S_, .i32⟩
  | .hbm, ⟨10, _⟩ => ⟨S16384x6, .i32⟩
  | .hbm, ⟨11, _⟩ => ⟨S16384x6, .i32⟩
  | .hbm, ⟨12, _⟩ => ⟨S16384x6, .i32⟩
  | .hbm, ⟨13, _⟩ => ⟨S16384x6x1, .i32⟩
  | .hbm, ⟨14, _⟩ => ⟨S1, .i32⟩
  | .hbm, ⟨15, _⟩ => ⟨S_, .i32⟩
  | .hbm, ⟨16, _⟩ => ⟨S16384x6x1, .i32⟩
  | .hbm, ⟨17, _⟩ => ⟨S16384x6x1, .i1⟩
  | .hbm, ⟨18, _⟩ => ⟨S1x1x1, .i32⟩
  | .hbm, ⟨19, _⟩ => ⟨S16384x6x1, .i32⟩
  | .hbm, ⟨20, _⟩ => ⟨S16384x6x1, .i1⟩
  | .hbm, ⟨21, _⟩ => ⟨S16384x6x1, .i1⟩
  | .hbm, ⟨22, _⟩ => ⟨S_, .i1⟩
  | .hbm, ⟨23, _⟩ => ⟨S16384x6, .i1⟩
  | .hbm, ⟨24, _⟩ => ⟨S16384x6x128, .f32⟩
  | .hbm, ⟨25, _⟩ => ⟨S16384x6x128, .i1⟩
  | .hbm, ⟨26, _⟩ => ⟨S_, .f32⟩
  | .hbm, ⟨27, _⟩ => ⟨S16384x6x128, .f32⟩
  | .hbm, ⟨28, _⟩ => ⟨S16384x6x128, .f32⟩
  | .hbm, ⟨29, _⟩ => ⟨S16384x768, .f32⟩
  | .hbm, ⟨30, _⟩ => ⟨S16384x128, .f32⟩
  | .hbm, ⟨31, _⟩ => ⟨S1x128, .f32⟩
  | .hbm, ⟨32, _⟩ => ⟨S16384x128, .f32⟩
  | .hbm, ⟨33, _⟩ => ⟨S16384x128, .f32⟩
  | .hbm, ⟨34, _⟩ => ⟨S_, .f32⟩
  | .hbm, ⟨35, _⟩ => ⟨S16384x128, .f32⟩
  | .hbm, ⟨36, _⟩ => ⟨S16384x128, .f32⟩
  | .hbm, ⟨37, _⟩ => ⟨S16384x91, .f32⟩
  | .hbm, ⟨38, _⟩ => ⟨S1x91, .f32⟩
  | .hbm, ⟨39, _⟩ => ⟨S16384x91, .f32⟩
  | .hbm, ⟨40, _⟩ => ⟨S16384x91, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x1, .f32⟩
  | .hbm, ⟨47, _⟩ => ⟨S16384x91, .f32⟩
  | .hbm, ⟨48, _⟩ => ⟨S16384x91, .f32⟩
  | .hbm, ⟨49, _⟩ => ⟨S16384x91, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x1, .f32⟩
  | .hbm, ⟨54, _⟩ => ⟨S16384x91, .f32⟩
  | .hbm, ⟨55, _⟩ => ⟨S16384x91, .f32⟩
  | _, _ => ⟨S16384x6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_call2_cst : Ref sig .tc := ⟨.hbm, 41, rfl⟩
abbrev main_call2_v0 : Ref sig .tc := ⟨.hbm, 42, rfl⟩
abbrev main_call2_cst_0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_cst_1 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_v11 : Ref sig .tc := ⟨.hbm, 55, rfl⟩

abbrev nD : Nat := 1
abbrev τ : Topo := Topo.v7x

variable {F : FTy → Type} [FloatOps F]
-- ==== Proof.Common.Rows.lean ====
/-
  What the precondition says: every index names a row of the table.
-/
module

public import proofs.«01_k».proof.Pre_in_range
public import Idealize.ShloMosaic.Lib.ReduceAll
public import Idealize.ShloMosaic.Lib.Affine

@[expose] public section

noncomputable section

namespace Cert.Proof.Rows

open Idealize.ShloMosaic Cert.Pre_in_range

variable {F : FTy → Type} [FloatOps F] [Cert.Pre_in_range.Facts]

instance : Subsingleton S_.Idx := ⟨fun a b => funext fun x => x.elim0⟩

/-- A word that is, read signed, at least zero and below a hundred thousand is so read unsigned. -/
theorem lt_of_signed {v : BitVec 32} (h0 : 0 ≤ v.toInt) (h1 : v.toInt < 100000) : v.toNat < 100000 := by
  rw [BitVec.toInt_eq_toNat_cond] at h0 h1
  have := v.isLt
  split at h0 <;> split at h1 <;> omega

/-- Where `in_range` is one, every index is below the number of rows. -/
theorem lt_of_pre (a0 : IVec S16384x6 32) (a1 : FVec F S100000x128 .f32) (a2 : FVec F S768x128 .f32) (a3 : FVec F S128 .f32)
    (a4 : FVec F S128x91 .f32) (a5 : FVec F S91 .f32) (h : Cert.Pre_in_range.fn a0 a1 a2 a3 a4 a5 = fun _ => 1#1) (i : S16384x6.Idx) :
    (a0 i).toNat < 100000 := by
  have e := congrFun h fun a => a.elim0
  have e1 := Host.reduce_andi_all _ _ _ _ _ e i
  obtain ⟨hge, hlt⟩ := IntOp.andi_eq_one.1 e1
  exact lt_of_signed (IntOp.cmpi_sge.1 hge) (IntOp.cmpi_slt.1 hlt)

end Cert.Proof.Rows

end
-- ==== Proof.KernelIdeal.Setup.lean ====
/-
  The set-up of the proof: the program as the launch theorem sees it, the ghost state, the four arrays of the
  SparseCore call, how they are dealt to the 32 tiles, and what each tile brings back.

  A tile is a pair (SparseCore, tile of it), `grid0`'s coordinates; its number is `2 * tile + SparseCore`. Tile `w`
  looks up the words `3072 * w … 3072 * w + 3071` of the index list, in six chunks of 512, and writes the rows it finds
  to the same rows of the gathered array.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the ghost state -/

/-- The labels of the program's one TensorCore call. -/
abbrev ΛP [FloatOps F] : Labels := Pipeline.Sig Λ₀ (Fin 1) fun p => (pcfgs (F := F) p).Adm
/-- The SparseCore call of the program. -/
abbrev K [FloatOps F] : SparseCore.Cfg τ sig (ΛP (F := F)) 1 := sc (F := F)
/-- What the labels below the SparseCore call run. -/
abbrev D [FloatOps F] : Defs nD τ sig (Elt F) (ΛP (F := F)) := Pipeline.defs pcfgs defs₀
/-- No loop is counted: there is none. -/
abbrev 𝒱₀ : Variants := Variants.none
/-- The same, with the TensorCore call's own. -/
abbrev 𝒱 : Variants := 𝒱₀.lift
/-- Where the count starts. -/
abbrev v₀ : 𝒱.V := Sum.inl none

/-- The launch's handshake: start and done are two semaphores, none of the four is freed with a scope, and no buffer is
    shared between a sequencer and its tiles. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state: the launch's handshakes, the TensorCore pipeline's staging cells, the transfers in flight. -/
abbrev UH : Type := URounds (GSem nD τ sig) ℕ
abbrev UP : Type := UR sig nD τ
abbrev UU : Type := UH × (UP × Counters)

local notation "𝕄" => MT nD τ sig (HIx 1) (Elt F) ℕ UU ℕ

/-- Where the handshakes' part lies in the whole, -/
abbrev EH : Emb UH (MT nD τ sig (HIx 1) (Elt F) ℕ UU ℕ) := embL
/-- and where the pipeline's. -/
abbrev EP : Emb UP (MT nD τ sig (HIx 1) (Elt F) ℕ UU ℕ) :=
  (Emb.inl : Emb UP (UP × Counters)).trans
    (embR (nD := nD) (τ := τ) (sig := sig) (Ix := HIx 1) (Val := Elt F) (Name := ℕ) (Lvl := ℕ) (A := UH) (B := UP × Counters))

instance EP_landsIn : (EP (F := F)).LandsIn (upEmb : UEmb _ (MT nD τ sig (HIx 1) (Elt F) ℕ UU ℕ)) := by
  unfold EP; infer_instance

/-! ## The arrays -/

/-- The index list, the table, the gathered array: where they lie on device `d`. -/
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-- The number of a tile's coordinates. -/
abbrev cV (L : grid0.Coords) : Fin τ.nSC := (L 0).castLE hcore0
abbrev jV (L : grid0.Coords) : Fin τ.nSub := (L 1).castLE hsub0

theorem lt_core (L : grid0.Coords) : (L 0).val < 2 := (L 0).isLt
theorem lt_sub (L : grid0.Coords) : (L 1).val < 16 := (L 1).isLt

/-- Tile `L`'s number among the 32. -/
def wid (L : grid0.Coords) : Fin 32 := ⟨2 * (L 1).val + (L 0).val, by have := lt_core L; have := lt_sub L; omega⟩

theorem idiv : 32 ∣ S98304.size 0 := ⟨3072, rfl⟩
theorem odiv : 192 ∣ S98304x128.size 0 := ⟨512, rfl⟩

/-- Chunk `r` of tile `w`, among the 192. -/
def cid (w : Fin 32) (r : Fin 6) : Fin 192 := ⟨6 * w.val + r.val, by omega⟩

/-- The elements of the index list that tile `w` looks up, -/
abbrev iSet (w : Fin 32) : Finset S98304.Idx := (Rect.part (s := S98304) (a₀ := 0) idiv w).set
/-- and those of the gathered array that its chunk `r` fills. -/
abbrev oSet (w : Fin 32) (r : Fin 6) : Finset S98304x128.Idx := (Rect.part (s := S98304x128) (a₀ := 0) odiv (cid w r)).set

/-- The table's read share of tile `w`; the tile's two gathers in flight read it by one token each. -/
abbrev xq (w : Fin 32) : PosShare TreeShare := Transfers.shareTok fullShare 32 w

/-! ## What is gathered -/

/-- The row of the table that a word names (any word below the table's height names its own). -/
def rowOf (v : BitVec 32) : Fin 100000 := ⟨v.toNat % 100000, Nat.mod_lt _ (by decide)⟩

/-- The gathered array, of the table and the index list: row `r` is the table's row that word `r` names. -/
def gath (tb : S100000x128.Idx → Elt F .f32) (ix : S98304.Idx → Elt F .i32) : S98304x128.Idx → Elt F .f32 := fun j =>
  tb fun | 0 => rowOf (ix (fun | 0 => j 0)) | 1 => j 1

variable (ix : (d : Dev nD) → Buf (Elt F) (iLoc d)) (tb : (d : Dev nD) → Buf (Elt F) (xLoc d)) (o₀ : (d : Dev nD) → Buf (Elt F) (oLoc d))

/-- Every word of the index list names a row of the table. -/
def InRange : Prop := ∀ (d : Dev nD) (j : S98304.Idx), (ix d j).toNat < 100000

/-! ## What the handshakes carry -/

abbrev iPts (d : Dev nD) (w : Fin 32) : sProp 𝕄 := iLoc d ↦[iSet w]{fullShare} ix d
abbrev xPts (d : Dev nD) (w : Fin 32) : sProp 𝕄 := xLoc d ↦{xq w} tb d
abbrev oPts (d : Dev nD) (w : Fin 32) (r : Fin 6) (f : Buf (Elt F) (oLoc d)) : sProp 𝕄 := oLoc d ↦[oSet w r]{fullShare} f
/-- The tile's six chunks of the gathered array, all of contents `f`. -/
abbrev oSix (d : Dev nD) (w : Fin 32) (f : Buf (Elt F) (oLoc d)) : sProp 𝕄 :=
  iprop(oPts d w 0 f ∗ oPts d w 1 f ∗ oPts d w 2 f ∗ oPts d w 3 f ∗ oPts d w 4 f ∗ oPts d w 5 f)

/-- A tile is handed its words of the list, its share of the table and its rows of the gathered array, -/
abbrev goP (d : Dev nD) (w : Fin 32) : sProp 𝕄 := iprop(iPts ix d w ∗ xPts tb d w ∗ oSix d w (o₀ d))
/-- and brings them back, its rows filled. -/
abbrev tdP (d : Dev nD) (w : Fin 32) : sProp 𝕄 := iprop(iPts ix d w ∗ xPts tb d w ∗ oSix d w (gath (tb d) (ix d)))

variable [FloatOps F]

theorem nSub_zero : (K (F := F)).nSub 0 = 16 := rfl
theorem nCore_zero : (K (F := F)).nCore 0 = 2 := rfl

/-- The number of tile `i` of SparseCore `c`. -/
def widOf (c : Fin 2) (i : Fin 16) : Fin 32 := ⟨2 * i.val + c.val, by omega⟩

/-- What a call hands out and takes back, per SparseCore and per tile: a SparseCore's is its sixteen tiles' together. -/
def P : (K (F := F)).Pay (nD := nD) (Val := Elt F) (Name := ℕ) (U := UU) where
  st := fun q d c => match q with | 0 => bigSep Finset.univ fun i : Fin 16 => goP ix tb o₀ d (widOf (Fin.cast nCore_zero c) i)
  dn := fun q d c => match q with | 0 => bigSep Finset.univ fun i : Fin 16 => tdP ix tb d (widOf (Fin.cast nCore_zero c) i)
  go := fun q d c i => match q with | 0 => goP ix tb o₀ d (widOf (Fin.cast nCore_zero c) (Fin.cast nSub_zero i))
  td := fun q d c i => match q with | 0 => tdP ix tb d (widOf (Fin.cast nCore_zero c) (Fin.cast nSub_zero i))
  x := fun _ _ => iprop(emp)

instance P_storable : (P (F := F) ix tb o₀).IsStorable where
  st q d c := match q with
    | 0 => (inferInstance : BI.Storable (upEmb : UEmb _ 𝕄)
        (bigSep Finset.univ fun i : Fin 16 => goP ix tb o₀ d (widOf (Fin.cast nCore_zero c) i)))
  dn q d c := match q with
    | 0 => (inferInstance : BI.Storable (upEmb : UEmb _ 𝕄)
        (bigSep Finset.univ fun i : Fin 16 => tdP ix tb d (widOf (Fin.cast nCore_zero c) i)))
  go q d c i := match q with
    | 0 => (inferInstance : BI.Storable (upEmb : UEmb _ 𝕄) (goP ix tb o₀ d (widOf (Fin.cast nCore_zero c) (Fin.cast nSub_zero i))))
  td q d c i := match q with
    | 0 => (inferInstance : BI.Storable (upEmb : UEmb _ 𝕄) (tdP ix tb d (widOf (Fin.cast nCore_zero c) (Fin.cast nSub_zero i))))

end Cert.Proof.KernelIdeal

end
-- ==== Proof.KernelIdeal.Body.lean ====
/-
  One point of the network's grid: from its six staging buffers, the body leaves the result's at the network of the
  other five.
-/
module

public import proofs.«01_k».proof.Proof.KernelIdeal.Setup
public import proofs.«01_k».proof.Proof.Gen.KernelIdeal.Points

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Memref `M`'s elements on core `c`, at contents `f`. -/
abbrev mPts (c : Dev nD) {sp : Space} {S : Shape} {e : EltTy} (M : Memref sig .tc sp S e) (f : Buf (Elt F) (M.view.loc (c.tc : Thread nD τ))) : sProp 𝕄 :=
  M.view.loc (c.tc : Thread nD τ) ↦[M.view.set]{fullShare} f

theorem off_zero : (![0, 0] : Fin 2 → ℕ) = fun _ => 0 := funext fun a => by fin_cases a <;> rfl

/-- A load of all of a buffer reads what the buffer holds. -/
theorem read_full {κ : Kind} {sp : Space} {s : Shape} {e : EltTy} (v : View sig κ sp s e) (f : v.ty.Contents (Elt F)) {off : Fin s.rank → ℕ}
    (h : off = fun _ => 0) (inb : ∀ a, off a + s.size a ≤ s.size a) :
    v.readAt (Elt F) (Rect.unit off s.size inb).toLoadRect f = v.read (Elt F) f := by
  subst h
  funext x
  exact congrArg (v.read (Elt F) f) (Rect.emb_whole_apply s x)

/-- After a store of all of it, the buffer holds what was stored. -/
theorem read_stored {κ : Kind} {sp : Space} {s : Shape} {e : EltTy} (v : View sig κ sp s e) (f : v.ty.Contents (Elt F)) {off : Fin s.rank → ℕ}
    (h : off = fun _ => 0) (inb : ∀ a, off a + s.size a ≤ s.size a) (w : s.Idx → Elt F e) (l : List (View.Piece (Elt F) s e)) :
    v.read (Elt F) (v.writes (Elt F) f (⟨Rect.unit off s.size inb, w⟩ :: l)) = w := by
  subst h
  funext x
  have := View.read_writes_cons_emb v f (Rect.whole s) w l x
  rw [Rect.emb_whole_apply] at this
  exact this

/-- The body's run, between any six staging buffers. -/
theorem mlp_run (c : Dev nD) (i : grid1.Coords) (M0 : Memref sig .tc .vmem S1024x768 .f32) (h0 : M0.IsWhole) (M1 : Memref sig .tc .vmem S768x128 .f32) (h1 : M1.IsWhole)
    (M2 : Memref sig .tc .vmem S1x128 .f32) (h2 : M2.IsWhole) (M3 : Memref sig .tc .vmem S128x91 .f32) (h3 : M3.IsWhole)
    (M4 : Memref sig .tc .vmem S1x91 .f32) (h4 : M4.IsWhole) (M5 : Memref sig .tc .vmem S1024x91 .f32) (h5 : M5.IsWhole)
    (f0 : Buf (Elt F) (M0.view.loc (c.tc : Thread nD τ))) (f1 : Buf (Elt F) (M1.view.loc (c.tc : Thread nD τ))) (f2 : Buf (Elt F) (M2.view.loc (c.tc : Thread nD τ)))
    (f3 : Buf (Elt F) (M3.view.loc (c.tc : Thread nD τ))) (f4 : Buf (Elt F) (M4.view.loc (c.tc : Thread nD τ))) (f5 : Buf (Elt F) (M5.view.loc (c.tc : Thread nD τ)))
    (Q : PUnit → sProp 𝕄) :
    iprop(mPts c M0 f0 ∗ mPts c M1 f1 ∗ mPts c M2 f2 ∗ mPts c M3 f3 ∗ mPts c M4 f4 ∗ mPts c M5 f5
        ∗ (iprop(mPts c M0 f0 ∗ mPts c M1 f1 ∗ mPts c M2 f2 ∗ mPts c M3 f3 ∗ mPts c M4 f4
            ∗ ∃ g, ⌜M5.view.read (Elt F) g = k1_pay1 (M0.view.read (Elt F) f0) (M1.view.read (Elt F) f1) (M2.view.read (Elt F) f2)
                (M3.view.read (Elt F) f3) (M4.view.read (Elt F) f4)⌝ ∗ mPts c M5 g) -∗ Q ⟨⟩))
      ⊢ wp frame (wpE (defs₀ (F := F)) 𝒱₀ (c.tc : Thread nD τ) none) Set.univ
          (cc1__mlp_body i M0 h0 M1 h1 M2 h2 M3 h3 M4 h4 M5 h5) Q := by
  simp only [cc1__mlp_body_eq_skeleton]; unfold cc1__mlp_body_skel
  iintro ⟨H0, H1, H2, H3, H4, H5, Hk⟩
  sl_exec
  sl_step
  iapply Hk
  isplitl [H0]; iexact H0
  isplitl [H1]; iexact H1
  isplitl [H2]; iexact H2
  isplitl [H3]; iexact H3
  isplitl [H4]; iexact H4
  iexists _
  isplitr
  rotate_left
  · iexact H5
  · ipureintro
    rw [read_stored M5.view f5 off_zero]
    rw [read_full M0.view f0 off_zero, read_full M1.view f1 off_zero, read_full M2.view f2 off_zero, read_full M3.view f3 off_zero,
      read_full M4.view f4 off_zero]

end Cert.Proof.KernelIdeal

end
-- ==== Proof.KernelIdeal.Region.lean ====
/-
  The network's call as a region of the program: entered with the TensorCore's buffers at some contents, it leaves them
  at the same contents but for the result, which holds, block of 1024 rows by block, the network of the same block of
  its first operand and of the weights.
-/
module

public import proofs.«01_k».proof.Proof.KernelIdeal.Body
public import proofs.«01_k».proof.Proof.Gen.KernelIdeal.Launch
public import Idealize.ShloMosaic.Lib.Pipeline.FrameBody
public import Idealize.ShloMosaic.Lib.Pipeline.Frame

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The call has no tables to fix. -/
abbrev adm : (p : Fin 1) → (pcfgs (F := F) p).Adm := fun p => (cfgs p).toPCfg_adm

variable (X : (c : Dev nD) → (b : Ref sig .tc) → Buf (Elt F) ((c.tc : Thread nD τ).loc b))

/-- The block of window `w`'s array that point `t` works on. -/
def blkAt (c : Dev nD) (w : Fin 6) (t : Fin cfg1.N) : ((cfg1.win w).xblock (grid1.coords t)).Idx → Elt F (cfg1.win w).elt :=
  ((cfg1.win w).blk t).view.read (Elt F) (X c (Pipeline.arrRef spec1 w))

/-- What point `t` writes. -/
def outAt (c : Dev nD) (t : Fin cfg1.N) : S1024x91.Idx → Elt F .f32 :=
  k1_pay1 (F := F) (blkAt X c 0 t) (blkAt X c 1 t) (blkAt X c 2 t) (blkAt X c 3 t) (blkAt X c 4 t)

/-- The waits the program may have made before or in the call: below the SparseCore launch's end. -/
def low (c : Dev nD) : Set (SemLoc sig × HIx 1) := {p | (K (F := F)).lev (SparseCore.T c, p.1) p.2 ≤ 8}

/-- The call's data: its arrays as found; at each point the operands' buffers at their blocks and the result's at the
    network of them. -/
def dat (c : Dev nD) : Pipeline.Dat τ (Elt F) (HIx 1) ℕ UU ℕ cfg1 c where
  A w := X c (Pipeline.arrRef spec1 w)
  after w t := match w with
    | ⟨0, _⟩ => blkAt X c 0 t
    | ⟨1, _⟩ => blkAt X c 1 t
    | ⟨2, _⟩ => blkAt X c 2 t
    | ⟨3, _⟩ => blkAt X c 3 t
    | ⟨4, _⟩ => blkAt X c 4 t
    | ⟨5, _⟩ => outAt X c t
  Φ _ := BI.emp
  q _ := fullShare
  owed _ := 0
  recorded _ := low (F := F) c

/-- The same, at the program's one call. -/
def pdats : (p : Fin 1) → (c : Dev nD) → Pipeline.Dat τ (Elt F) (HIx 1) ℕ UU ℕ (Pipeline.pin (pcfgs (F := F)) adm p) c :=
  fun | 0 => fun c => dat X c

theorem before0 (c : Dev nD) (t : Fin cfg1.N) (d) : (dat X c).before 0 t d = blkAt X c 0 t :=
  (dat X c).before_in_eq_fetched 0 rfl (fun _ => rfl) (fun _ _ _ => rfl) (fun _ => rfl) t d
theorem before1 (c : Dev nD) (t : Fin cfg1.N) (d) : (dat X c).before 1 t d = blkAt X c 1 t :=
  (dat X c).before_in_eq_fetched 1 rfl (fun _ => rfl) (fun _ _ _ => rfl) (fun _ => rfl) t d
theorem before2 (c : Dev nD) (t : Fin cfg1.N) (d) : (dat X c).before 2 t d = blkAt X c 2 t :=
  (dat X c).before_in_eq_fetched 2 rfl (fun _ => rfl) (fun _ _ _ => rfl) (fun _ => rfl) t d
theorem before3 (c : Dev nD) (t : Fin cfg1.N) (d) : (dat X c).before 3 t d = blkAt X c 3 t :=
  (dat X c).before_in_eq_fetched 3 rfl (fun _ => rfl) (fun _ _ _ => rfl) (fun _ => rfl) t d
theorem before4 (c : Dev nD) (t : Fin cfg1.N) (d) : (dat X c).before 4 t d = blkAt X c 4 t :=
  (dat X c).before_in_eq_fetched 4 rfl (fun _ => rfl) (fun _ _ _ => rfl) (fun _ => rfl) t d

/-- What the body does at every point: `mlp_run` on the buffers the point is on. -/
theorem body_obligation (c : Dev nD) : Pipeline.BodyObligation (dat X c) (defs₀ (F := F)) 𝒱₀ (none : HIx 1) Set.univ := fun t => by
  rw [bigSep_W1, bigSep_W1]; simp only [owns]
  rw [show (dat X c).Φ t.castSucc = BI.emp from rfl, show (dat X c).Φ t.succ = BI.emp from rfl,
    show (dat X c).owesAt (none : HIx 1) t.succ = (dat X c).owesAt (none : HIx 1) t.castSucc from rfl]
  iintro ⟨-, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [before0] at h0; rw [before1] at h1; rw [before2] at h2; rw [before3] at h3; rw [before4] at h4
  iapply (mlp_run c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) f0 f1 f2 f3 f4 f5)
  isplitl [H0]; iexact H0
  isplitl [H1]; iexact H1
  isplitl [H2]; iexact H2
  isplitl [H3]; iexact H3
  isplitl [H4]; iexact H4
  isplitl [H5]; iexact H5
  iintro ⟨H0, H1, H2, H3, H4, %g, %hg, H5⟩
  isplitr; · iempintro
  isplitl [HO]; · iexact HO
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  iexists g; isplitr; swap; (· iexact H5); ipureintro
  refine hg.trans ?_
  have e0 := h0; have e1 := h1; have e2 := h2; have e3 := h3; have e4 := h4
  show _ = k1_pay1 (F := F) (blkAt X c 0 t) (blkAt X c 1 t) (blkAt X c 2 t) (blkAt X c 3 t) (blkAt X c 4 t)
  rw [← h0, ← h1, ← h2, ← h3, ← h4]

end Cert.Proof.KernelIdeal

end
-- ==== Proof.KernelIdeal.Segment.lean ====
/-
  The array the network's call leaves, row by row; and the call as a segment of the program, from the buffers at some
  contents to the same but for that array.
-/
module

public import proofs.«01_k».proof.Proof.KernelIdeal.Region
public import Idealize.ShloMosaic.Lib.Pipeline.Value
public import Idealize.ShloMosaic.Lib.Pipeline.RegionsLoop

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (X : (c : Dev nD) → (b : Ref sig .tc) → Buf (Elt F) ((c.tc : Thread nD τ).loc b))

/-- The point that works on row `r`. -/
def ptOf (r : Fin 16384) : Fin cfg1.N := ⟨r.val / 1024, show r.val / 1024 < grid1.N by rw [N_1]; omega⟩

/-- The result: row `r` is row `r % 1024` of what the point of row `r` writes. -/
def net (c : Dev nD) : Buf (Elt F) ((c.tc : Thread nD τ).loc main_v5) := fun i : S16384x91.Idx =>
  outAt X c (ptOf (i 0)) ((fun | 0 => ⟨(i 0).val % 1024, Nat.mod_lt _ (by decide)⟩ | 1 => i 1 : S1024x91.Idx))

/-- Where the result's block at point `t` lies. -/
theorem out_rect (t : Fin cfg1.N) : win1_5.index t 0 * win1_5.size 0 = t.val * 1024 ∧ win1_5.xsize (grid1.coords t) 0 = 1024
    ∧ win1_5.index t 1 * win1_5.size 1 = 0 ∧ win1_5.xsize (grid1.coords t) 1 = 91 := by
  rcases fin_N1 t with rfl | rfl | rfl | rfl | rfl | rfl | rfl | rfl | rfl | rfl | rfl | rfl | rfl | rfl | rfl | rfl <;> decide +kernel

/-- An element of the result is in point `t`'s block when its row is among the point's 1024. -/
theorem mem_out (t : Fin cfg1.N) (i : S16384x91.Idx) :
    i ∈ ((cfg1.win 5).blk t).view.set ↔ t.val * 1024 ≤ (i 0 : Nat) ∧ (i 0 : Nat) < t.val * 1024 + 1024 := by
  show i ∈ ((View.whole main_v5).slice (win1_5.rect t)).set ↔ _
  rw [View.set_slice_whole, Rect.mem_set_unit]
  obtain ⟨e0, e1, e2, e3⟩ := out_rect t
  constructor
  · intro h
    have h0 : win1_5.index t 0 * win1_5.size 0 ≤ (i 0 : Nat) ∧ (i 0 : Nat) < win1_5.index t 0 * win1_5.size 0 + win1_5.xsize (grid1.coords t) 0 := h 0
    rwa [e0, e1] at h0
  · intro h a
    match a with
    | ⟨0, _⟩ =>
      show win1_5.index t 0 * win1_5.size 0 ≤ (i 0 : Nat) ∧ (i 0 : Nat) < win1_5.index t 0 * win1_5.size 0 + win1_5.xsize (grid1.coords t) 0
      rwa [e0, e1]
    | ⟨1, _⟩ =>
      show win1_5.index t 1 * win1_5.size 1 ≤ (i 1 : Nat) ∧ (i 1 : Nat) < win1_5.index t 1 * win1_5.size 1 + win1_5.xsize (grid1.coords t) 1
      rw [e2, e3]
      exact ⟨Nat.zero_le _, by have := (i 1).isLt; simpa using this⟩

/-- Every element is in its row's point's block. -/
theorem out_cover (i : S16384x91.Idx) : ∃ t : Fin cfg1.N, (cfg1.win 5).flush t = true ∧ i ∈ ((cfg1.win 5).blk t).view.set := by
  refine ⟨ptOf (i 0), flush1_5 _, (mem_out _ _).2 ?_⟩
  show (i 0).val / 1024 * 1024 ≤ (i 0).val ∧ (i 0).val < (i 0).val / 1024 * 1024 + 1024
  omega

/-- What point `t` writes is its block of `net`. -/
theorem flushed_net (c : Dev nD) (t : Fin cfg1.N) : (dat X c).flushed 5 t = ((cfg1.win 5).blk t).view.read (Elt F) (net X c) := by
  funext x
  show outAt X c t x = net X c ((win1_5.rect t).emb x)
  obtain ⟨e0, -, e2, -⟩ := out_rect t
  have h0 : ((win1_5.rect t).emb x 0 : Nat) = t.val * 1024 + (x 0 : Nat) := by
    have : ((win1_5.rect t).emb x 0 : Nat) = win1_5.index t 0 * win1_5.size 0 + 1 * (x 0 : Nat) := rfl
    rw [this, e0, Nat.one_mul]
  have h1 : ((win1_5.rect t).emb x 1 : Nat) = (x 1 : Nat) := by
    have : ((win1_5.rect t).emb x 1 : Nat) = win1_5.index t 1 * win1_5.size 1 + 1 * (x 1 : Nat) := rfl
    rw [this, e2, Nat.one_mul, Nat.zero_add]
  have hx : (x 0 : Nat) < 1024 := (x 0).isLt
  have et : ptOf ((win1_5.rect t).emb x 0) = t := Fin.ext (show ((win1_5.rect t).emb x 0 : Nat) / 1024 = t.val by rw [h0]; omega)
  unfold net
  rw [et]
  refine congrArg (outAt X c t) (funext fun a => ?_)
  match a with
  | ⟨0, _⟩ => exact Fin.ext (show (x 0 : Nat) = ((win1_5.rect t).emb x 0 : Nat) % 1024 by rw [h0]; omega)
  | ⟨1, _⟩ => exact Fin.ext h1.symm

/-- So the array ends at `net`. -/
theorem arr_net (c : Dev nD) : (dat X c).arrAt 5 cfg1.N = net X c :=
  (dat X c).arrAt_eq_of_cover 5 (net X c) (fun t _ => flushed_net X c t) out_cover

variable (X' : (c : Dev nD) → (b : Ref sig .tc) → Buf (Elt F) ((c.tc : Thread nD τ).loc b))

/-- No wait of the call asks for evidence: nothing is owed during it. -/
abbrev noLev : GSem nD τ sig → Finset (HIx 1) := fun _ => ∅
abbrev lev0 : GSem nD τ sig → HIx 1 → ℕ := fun _ _ => 0

set_option backward.isDefEq.respectTransparency.types false in
/-- The call: from the buffers at `X` to the buffers at any `X'` that has the result at `net` and is `X` elsewhere; what
    waits have been made stays low. -/
def reg (hout : ∀ c, X' c main_v5 = net X c) (hne : ∀ c (b : Ref sig .tc), b ≠ main_v5 → X' c b = X c b) :
    Pipeline.RegionSeg (pcfgs (F := F)) adm (pdats X) (none : HIx 1) defs₀ 𝒱₀ noLev lev0 0 where
  win := (launch1).win.to₀
  block_pos := (launch1).block_pos
  stage_whole := (launch1).stage_whole
  K := PEmpty
  osem k := k.elim
  ho := Pipeline.OwnSemFacts.none _
  hbody c := (body_obligation X c).loose
  hwaits := Pipeline.hwaits_of_owed_zero _ _ _ _ noLev lev0 0 fun _ _ => rfl
  pre c := iprop(unscopedBufs c (X c) ∗ ∃ W, ⌜(K (F := F)).WBelow (SparseCore.T c) W 8⌝ ∗ owes (c.tc : Thread nD τ) (0 : CellTallies nD τ sig (HIx 1)) W)
  post c := iprop(unscopedBufs c (X' c) ∗ ∃ W, ⌜(K (F := F)).WBelow (SparseCore.T c) W 8⌝ ∗ owes (c.tc : Thread nD τ) (0 : CellTallies nD τ sig (HIx 1)) W)
  X _ := BI.emp
  Y _ := BI.emp
  Z c := Pipeline.unscopedRest (Ix := HIx 1) (Name := ℕ) (U := UU) (Lvl := ℕ) spec1 c (X c)
  hentry c := by
    rw [Pipeline.ownSems0_none]
    have hsplit := Pipeline.arrays_of_unscopedBufs (p := 0) (pcfgs (F := F)) adm (pdats X) (launch1).win (launch1).arr_whole c
      ((pdats X 0 c).share_full fun _ => rfl) (X c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W
      isplitr
      · ipureintro; exact fun p hp => Or.inl (hW p hp)
      · iexact HO
    isplitr; · iempintro
    iexact Hrest
  hin c := by
    rw [show (pdats X 0 c).Φ 0 = BI.emp from rfl]
    iintro -; iempintro
  hout c := by
    rw [Pipeline.ownSems0_none, show (pdats X 0 c).Φ (Fin.last _) = BI.emp from rfl]
    iintro -
    isplitr; · iempintro
    isplitr; · iempintro
    rw [scopedRest1_eq]
    iempintro
  hexit c := by
    have hjoin := Pipeline.unscopedBufs_of_arrays (p := 0) (pcfgs (F := F)) adm (Ix := HIx 1) (Name := ℕ) (U := UU) (Lvl := ℕ) (launch1).win (launch1).arr_whole c
      (pdats X) ((pdats X 0 c).share_full fun _ => rfl) (X c) (X' c) ((pdats X 0 c).arrAt · cfg1.N)
      (fun w => by
        match w with
        | ⟨0, _⟩ => exact ((pdats X 0 c).arrAt_in 0 rfl _).trans (hne c main_v2 (by decide)).symm
        | ⟨1, _⟩ => exact ((pdats X 0 c).arrAt_in 1 rfl _).trans (hne c main_arg2 (by decide)).symm
        | ⟨2, _⟩ => exact ((pdats X 0 c).arrAt_in 2 rfl _).trans (hne c main_v3 (by decide)).symm
        | ⟨3, _⟩ => exact ((pdats X 0 c).arrAt_in 3 rfl _).trans (hne c main_arg4 (by decide)).symm
        | ⟨4, _⟩ => exact ((pdats X 0 c).arrAt_in 4 rfl _).trans (hne c main_v4 (by decide)).symm
        | ⟨5, _⟩ => exact (arr_net X c).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | h
      · exact h
      · obtain ⟨w, b, rfl⟩ := h
        exact Nat.zero_le 8
    · iexact HO

end Cert.Proof.KernelIdeal

end
-- ==== Proof.KernelIdeal.Deal.lean ====
/-
  How the index list, the table and the gathered array are dealt to the 32 tiles and taken back: the list in 32 parts, the
  table in 32 read shares and a rest, the array in 192 chunks, six per tile.
-/
module

public import proofs.«01_k».proof.Proof.KernelIdeal.Setup
public import Idealize.ShloMosaic.Lib.Pipeline.Kit

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (ix : (d : Dev nD) → Buf (Elt F) (iLoc d)) (tb : (d : Dev nD) → Buf (Elt F) (xLoc d)) (o₀ : (d : Dev nD) → Buf (Elt F) (oLoc d))

/-- A sum over the tiles, SparseCore by SparseCore. -/
theorem bigSep_wid (Φ : Fin 32 → sProp 𝕄) :
    bigSep Finset.univ Φ = bigSep Finset.univ fun c : Fin 2 => bigSep Finset.univ fun i : Fin 16 => Φ (widOf c i) := by
  rw [bigSep_univ_equiv ((Equiv.prodComm (Fin 2) (Fin 16)).trans (finProdFinEquiv : Fin 16 × Fin 2 ≃ Fin (16 * 2))) Φ, bigSep_univ_prod]
  refine bigSep_congr fun c _ => bigSep_congr fun i _ => congrArg Φ (Fin.ext ?_)
  show c.val + 2 * i.val = 2 * i.val + c.val
  omega

/-- A sum over the chunks, tile by tile. -/
theorem bigSep_cid (Φ : Fin 192 → sProp 𝕄) :
    bigSep Finset.univ Φ = bigSep Finset.univ fun w : Fin 32 => bigSep Finset.univ fun r : Fin 6 => Φ (cid w r) := by
  rw [bigSep_univ_equiv (finProdFinEquiv : Fin 32 × Fin 6 ≃ Fin (32 * 6)) Φ, bigSep_univ_prod]
  refine bigSep_congr fun w _ => bigSep_congr fun r _ => congrArg Φ (Fin.ext ?_)
  show r.val + 6 * w.val = 6 * w.val + r.val
  omega

/-- The list is its 32 parts. -/
theorem list_parts (d : Dev nD) : (iLoc d ↦{fullShare} ix d : sProp 𝕄) = bigSep Finset.univ fun w : Fin 32 => iPts ix d w := by
  have h := pointsTo_biUnion (Ix := HIx 1) (Name := ℕ) (U := UU) (Lvl := ℕ) (Val := Elt F) (q := fullShare) (f := ix d) Finset.univ (ℓ := iLoc d) iSet fun _ _ _ _ h => Rect.part_disjoint idiv h
  rw [← h]
  exact congrArg (fun S => (iLoc d ↦[S]{fullShare} ix d : sProp 𝕄)) (Rect.biUnion_part idiv).symm

/-- The gathered array is its 192 chunks. -/
theorem array_chunks (d : Dev nD) (f : Buf (Elt F) (oLoc d)) : (oLoc d ↦{fullShare} f : sProp 𝕄) = bigSep Finset.univ fun w : Fin 32 => oSix d w f := by
  have h := pointsTo_biUnion (Ix := HIx 1) (Name := ℕ) (U := UU) (Lvl := ℕ) (Val := Elt F) (q := fullShare) (f := f) Finset.univ (ℓ := oLoc d)
    (fun j : Fin 192 => (Rect.part (s := S98304x128) (a₀ := 0) odiv j).set) fun _ _ _ _ h => Rect.part_disjoint odiv h
  have e : (oLoc d ↦{fullShare} f : sProp 𝕄) = bigSep Finset.univ fun j : Fin 192 => oLoc d ↦[(Rect.part (s := S98304x128) (a₀ := 0) odiv j).set]{fullShare} f := by
    rw [← h]
    exact congrArg (fun S => (oLoc d ↦[S]{fullShare} f : sProp 𝕄)) (Rect.biUnion_part odiv).symm
  rw [e, bigSep_cid]
  exact bigSep_congr fun w _ => bigSep_univ_eq_bigSepL [(0 : Fin 6), 1, 2, 3, 4, 5] (by decide) (by decide) _

/-- What a tile holds, its rows of the gathered array at `f`. -/
abbrev tileP (d : Dev nD) (f : Buf (Elt F) (oLoc d)) (w : Fin 32) : sProp 𝕄 := iprop(iPts ix d w ∗ xPts tb d w ∗ oSix d w f)

/-- The three arrays are a rest of the table and the 32 tiles' parts. -/
theorem dealt (d : Dev nD) (f : Buf (Elt F) (oLoc d)) :
    (iprop((iLoc d ↦{fullShare} ix d) ∗ (xLoc d ↦{fullShare} tb d) ∗ (oLoc d ↦{fullShare} f)) : sProp 𝕄)
      ⊣⊢ iprop((xLoc d ↦{Transfers.shareDrop fullShare 32} tb d)
        ∗ bigSep Finset.univ fun c : Fin 2 => bigSep Finset.univ fun i : Fin 16 => tileP ix tb d f (widOf c i)) := by
  rw [← bigSep_wid (fun w => tileP ix tb d f w), bigSep_sep', bigSep_sep', ← list_parts, ← array_chunks]
  have hx := Transfers.pointsTo_toks (ℓ := xLoc d) (S := Finset.univ) (f := tb d) (Ix := HIx 1) (Name := ℕ) (U := UU) (Lvl := ℕ) fullShare 32
  constructor
  · iintro ⟨Hi, Hx, Ho⟩
    ihave H := hx.1 $$ Hx
    icases H with ⟨Hr, Hx⟩
    isplitl [Hr]; · iexact Hr
    isplitl [Hi]; · iexact Hi
    isplitl [Hx] <;> iassumption
  · iintro ⟨Hr, Hi, Hx, Ho⟩
    isplitl [Hi]; · iexact Hi
    isplitl [Hr Hx]
    · iapply hx.2; isplitl [Hr] <;> iassumption
    iexact Ho

variable [FloatOps F]

/-- What the launch's start hands over, all SparseCores together, -/
theorem st_eq (d : Dev nD) : (bigSep Finset.univ fun c : Fin ((K (F := F)).nCore 0) => (P ix tb o₀).st 0 d c)
    = bigSep Finset.univ fun c : Fin 2 => bigSep Finset.univ fun i : Fin 16 => tileP ix tb d (o₀ d) (widOf c i) := rfl
/-- and what its end brings back. -/
theorem dn_eq (d : Dev nD) : (bigSep Finset.univ fun c : Fin ((K (F := F)).nCore 0) => (P ix tb o₀).dn 0 d c)
    = bigSep Finset.univ fun c : Fin 2 => bigSep Finset.univ fun i : Fin 16 => tileP ix tb d (gath (tb d) (ix d)) (widOf c i) := rfl

end Cert.Proof.KernelIdeal

end
-- ==== Proof.KernelIdeal.Windows.lean ====
/-
  The windows that a tile addresses, its semaphores and buffers, and the list that it fetches.
-/
module

public import proofs.«01_k».proof.Proof.KernelIdeal.Setup

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S98304 EltTy.i32)
local notation "oV" => (Memref.whole Cert.KernelIdeal.main_v1_scv : Memref Cert.KernelIdeal.sig Kind.scVector Space.hbm Cert.KernelIdeal.S98304x128 EltTy.f32)
local notation "lV" => (Memref.whole Cert.KernelIdeal.cc0_scratch0 : Memref Cert.KernelIdeal.sig Kind.scVector Space.vmem Cert.KernelIdeal.S3072 EltTy.i32)
local notation "aV" => (Memref.whole Cert.KernelIdeal.cc0_scratch1 : Memref Cert.KernelIdeal.sig Kind.scVector Space.vmem Cert.KernelIdeal.S512x128 EltTy.f32)
local notation "bV" => (Memref.whole Cert.KernelIdeal.cc0_scratch2 : Memref Cert.KernelIdeal.sig Kind.scVector Space.vmem Cert.KernelIdeal.S512x128 EltTy.f32)

variable (ix : (d : Dev nD) → Buf (Elt F) (iLoc d)) (tb : (d : Dev nD) → Buf (Elt F) (xLoc d)) (o₀ : (d : Dev nD) → Buf (Elt F) (oLoc d))
variable [FloatOps F] (d : Dev nD) (L : grid0.Coords)

/-! ## The windows a tile addresses -/

/-- The tile's words of the list, and its chunk `r` of the gathered array, as the program addresses them. -/
abbrev iRect (L : grid0.Coords) : Rect S98304 := Rect.unit (s := S98304) (k0_off1 L) S3072.size (k0_off1_inb L)
abbrev oRect (L : grid0.Coords) (r : Fin 6) : Rect S98304x128 :=
  Rect.unit (s := S98304x128) (k0_off2 L (BitVec.ofNat 32 (512 * r.val))) S512x128.size (k0_off2_inb L r)
abbrev iWin (L : grid0.Coords) : Memref sig .scVector .hbm S3072 .i32 := (iV).slice (iRect L) (fun _ => rfl)
abbrev oWin (L : grid0.Coords) (r : Fin 6) : Memref sig .scVector .hbm S512x128 .f32 := (oV).slice (oRect L r) (fun _ => rfl)

/-- They are the 32nd and the 192nd parts that the tile is handed. -/
theorem iRect_eq : iRect L = Rect.part (s := S98304) (a₀ := 0) idiv (wid L) := by
  unfold iRect Rect.part Rect.block
  congr 1 <;> funext a
  · rw [k0_off1_eq]
    match a with
    | 0 => simp [Shape.partIx, Shape.partSize, wid]; omega
  · match a with
    | 0 => simp [Shape.partSize]

theorem oRect_eq (r : Fin 6) : oRect L r = Rect.part (s := S98304x128) (a₀ := 0) odiv (cid (wid L) r) := by
  unfold oRect Rect.part Rect.block
  congr 1 <;> funext a
  · rw [k0_off2_eq]
    match a with
    | 0 => simp [Shape.partIx, Shape.partSize, wid, cid]; omega
    | 1 => simp [Shape.partIx, Shape.partSize]
  · match a with
    | 0 => simp [Shape.partSize]
    | 1 => simp [Shape.partSize]

theorem iWin_set : (iWin L).view.set = iSet (wid L) :=
  (View.set_slice_whole main_v0_scv (iRect L)).trans (by rw [iRect_eq])

theorem oWin_set (r : Fin 6) : (oWin L r).view.set = oSet (wid L) r :=
  (View.set_slice_whole main_v1_scv (oRect L r)).trans (by rw [oRect_eq])

theorem iPts_eq (f : Buf (Elt F) (iLoc d)) :
    ((iWin L).view.loc (V d (cV L) (jV L)) ↦[(iWin L).view.set]{fullShare} f : sProp 𝕄) = iLoc d ↦[iSet (wid L)]{fullShare} f := by
  rw [iWin_set]

theorem oPts_eq (r : Fin 6) (f : Buf (Elt F) (oLoc d)) :
    ((oWin L r).view.loc (V d (cV L) (jV L)) ↦[(oWin L r).view.set]{fullShare} f : sProp 𝕄) = oPts d (wid L) r f := by
  rw [oWin_set]

/-! ## The tile's own semaphores and buffers -/

/-- The nine semaphores that the task counts its transfers on. -/
def usedSems : Finset (SemLoc sig) :=
  {SemLoc.dma cc0_scratch3.sem, SemLoc.dma cc0_scratch4.sem, SemLoc.dma cc0_scoped0.sem, SemLoc.dma cc0_scoped1.sem, SemLoc.dma cc0_scoped2.sem,
    SemLoc.dma cc0_scoped3.sem, SemLoc.dma cc0_scoped4.sem, SemLoc.dma cc0_scoped5.sem, SemLoc.dma cc0_scoped6.sem}

abbrev cell (d : Dev nD) (L : grid0.Coords) (sm : SemLoc sig) : GSem nD τ sig := (V d (cV L) (jV L), sm)

def cellEmb (d : Dev nD) (L : grid0.Coords) : SemLoc sig ↪ GSem nD τ sig := ⟨cell d L, fun _ _ h => congrArg Prod.snd h⟩

theorem used_scoped : ∀ sm ∈ usedSems, sm.isScoped .scVector = true := by decide

theorem used_subset : usedSems.map (cellEmb d L) ⊆ ownCells (V d (cV L) (jV L)) := by
  intro g hg
  obtain ⟨sm, hsm, rfl⟩ := Finset.mem_map.mp hg
  exact mem_ownCells.mpr ⟨rfl, used_scoped sm hsm⟩

/-- The tile's semaphores at zero: the nine, and the rest. -/
theorem ownSems0_V :
    (ownSems0 (V d (cV L) (jV L)) : sProp 𝕄)
      = iprop((semVal (cell d L (.dma cc0_scratch3.sem)) 0 ∗ semVal (cell d L (.dma cc0_scratch4.sem)) 0
          ∗ semVal (cell d L (.dma cc0_scoped0.sem)) 0 ∗ semVal (cell d L (.dma cc0_scoped1.sem)) 0 ∗ semVal (cell d L (.dma cc0_scoped2.sem)) 0
          ∗ semVal (cell d L (.dma cc0_scoped3.sem)) 0 ∗ semVal (cell d L (.dma cc0_scoped4.sem)) 0 ∗ semVal (cell d L (.dma cc0_scoped5.sem)) 0
          ∗ semVal (cell d L (.dma cc0_scoped6.sem)) 0)
          ∗ bigSep (ownCells (V d (cV L) (jV L)) \ usedSems.map (cellEmb d L)) fun g => semVal g 0) := by
  unfold SparseCore.Cfg.ownSems0
  rw [SparseCore.bigSep_sdiff_split' (used_subset d L), bigSep_map]
  unfold usedSems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]
  rfl

/-- A scratch buffer of the tile, at some contents. -/
abbrev someBuf (d : Dev nD) (b : DevRef τ sig) : sProp 𝕄 := iprop(∃ f, ((d, b) : Loc nD τ sig) ↦{fullShare} f)

/-- The tile's three buffers. -/
def usedRefs : Finset (Ref sig .scVector) := {cc0_scratch0, cc0_scratch1, cc0_scratch2}

theorem usedRefs_owner : ∀ b ∈ usedRefs, ((Proc.scVector (cV L) (jV L)).devRef b).owner = .proc (.scVector (cV L) (jV L)) := by
  intro b hb
  simp only [usedRefs, Finset.mem_insert, Finset.mem_singleton] at hb
  rcases hb with rfl | rfl | rfl <;> rfl

def refEmb (L : grid0.Coords) : Ref sig .scVector ↪ DevRef τ sig := ⟨(Proc.scVector (cV L) (jV L)).devRef, Proc.devRef_injective _⟩

theorem usedRefs_subset : usedRefs.map (refEmb L) ⊆ ownRefs (τ := τ) (.scVector (cV L) (jV L)) := by
  intro b hb
  obtain ⟨r, hr, rfl⟩ := Finset.mem_map.mp hb
  exact SparseCore.Cfg.mem_ownRefs_of_owner (usedRefs_owner L r hr)

/-- The tile's buffers: the three, and the rest. -/
theorem ownBufs_V :
    (ownBufs (V d (cV L) (jV L)) : sProp 𝕄)
      = iprop(((∃ f, (lV).view.loc (V d (cV L) (jV L)) ↦{fullShare} f) ∗ (∃ f, (aV).view.loc (V d (cV L) (jV L)) ↦{fullShare} f)
            ∗ (∃ f, (bV).view.loc (V d (cV L) (jV L)) ↦{fullShare} f))
          ∗ bigSep (ownRefs (τ := τ) (.scVector (cV L) (jV L)) \ usedRefs.map (refEmb L)) fun b => someBuf d b) := by
  unfold SparseCore.Cfg.ownBufs
  refine (SparseCore.bigSep_sdiff_split' (usedRefs_subset L)).trans ?_
  rw [bigSep_map]
  unfold usedRefs
  rw [SparseCore.bigSep_insert' (by decide), SparseCore.bigSep_insert' (by decide), bigSep_singleton]
  rfl

/-- The table's share of the tile, dealt to its two gathers: a token each, and a rest. -/
theorem xPts_toks :
    ((xV).view.loc (V d (cV L) (jV L)) ↦{xq (wid L)} tb d : sProp 𝕄)
      ⊣⊢ iprop(((xV).view.loc (V d (cV L) (jV L)) ↦{Transfers.shareDrop (xq (wid L)) 2} tb d)
        ∗ ((xV).view.loc (V d (cV L) (jV L)) ↦{Transfers.shareTokN (xq (wid L)) 0} tb d)
        ∗ ((xV).view.loc (V d (cV L) (jV L)) ↦{Transfers.shareTokN (xq (wid L)) 1} tb d)) := by
  refine (Transfers.pointsTo_toks_range (xq (wid L)) 2).trans (BIBase.BiEntails.of_eq ?_)
  rw [show Finset.range 2 = insert 0 {1} by decide, SparseCore.bigSep_insert' (by decide), bigSep_singleton]

/-! ## The list the tile has fetched -/

/-- The tile's 3072 words of the list, as its scratch holds them. -/
def words (L : grid0.Coords) : Buf (Elt F) ((V d (cV L) (jV L)).loc cc0_scratch0) := (iWin L).view.read (Elt F) (ix d)

/-- Each of them is a word of the list, -/
theorem words_apply (x : S3072.Idx) : words ix d L x = ix d ((iRect L).emb x) := rfl
/-- so each names a row of the table; stated of the words of any window of the scratch. -/
theorem window_lt (hin : InRange ix) (R : Rect S3072) (hR : ∀ a, R.stride a = 1) (x : R.shape.Idx) :
    (((lV).slice R hR).view.read (Elt F) (words ix d L) x).toNat < S100000x128.size gathers_S100000x128_S512x128.axis :=
  hin d _

end Cert.Proof.KernelIdeal

end
-- ==== Proof.KernelIdeal.Chunk.lean ====
/-
  What one chunk of the gather delivers: the rows of the table that the chunk's words name, at their places in the
  gathered array.
-/
module

public import proofs.«01_k».proof.Proof.KernelIdeal.Windows

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S98304 EltTy.i32)
local notation "oV" => (Memref.whole Cert.KernelIdeal.main_v1_scv : Memref Cert.KernelIdeal.sig Kind.scVector Space.hbm Cert.KernelIdeal.S98304x128 EltTy.f32)
local notation "lV" => (Memref.whole Cert.KernelIdeal.cc0_scratch0 : Memref Cert.KernelIdeal.sig Kind.scVector Space.vmem Cert.KernelIdeal.S3072 EltTy.i32)
local notation "aV" => (Memref.whole Cert.KernelIdeal.cc0_scratch1 : Memref Cert.KernelIdeal.sig Kind.scVector Space.vmem Cert.KernelIdeal.S512x128 EltTy.f32)
local notation "bV" => (Memref.whole Cert.KernelIdeal.cc0_scratch2 : Memref Cert.KernelIdeal.sig Kind.scVector Space.vmem Cert.KernelIdeal.S512x128 EltTy.f32)

variable (ix : (d : Dev nD) → Buf (Elt F) (iLoc d)) (tb : (d : Dev nD) → Buf (Elt F) (xLoc d)) (o₀ : (d : Dev nD) → Buf (Elt F) (oLoc d))
variable [FloatOps F] (d : Dev nD) (L : grid0.Coords)

/-- What a staging buffer holds after a write of all of it: what was written last. -/
theorem read_last (b : Ref sig .scVector) (f : (View.whole b : View sig .scVector b.space b.ty.shape b.ty.elt).ty.Contents (Elt F)) (p : b.ty.shape.Idx → Elt F b.ty.elt)
    (l : List (View.Piece (Elt F) b.ty.shape b.ty.elt)) :
    (View.whole b).read (Elt F) ((View.whole b).writes (Elt F) f (⟨Rect.whole b.ty.shape, p⟩ :: l)) = p := by
  funext x
  rw [View.writes_cons]
  have h := View.write_emb_of_mem (v := (View.whole b).slice (Rect.whole b.ty.shape)) (Val := Elt F) ((View.whole b).writes (Elt F) f l) p
    (Finset.mem_univ x)
  rw [View.emb_slice, Function.Embedding.trans_apply, Rect.emb_whole_apply] at h
  exact h

/-- A word below the table's height names its own row. -/
theorem rowOf_eq (v : BitVec 32) (h : v.toNat < 100000) : rowOf v = ⟨v.toNat, h⟩ := Fin.ext (Nat.mod_eq_of_lt h)

/-- Chunk `r`'s gather delivers the rows of the gathered array that the chunk is. -/
theorem chunk_pay (r : Fin 6) (o : Fin 1 → ℕ) (ho : o 0 = 512 * r.val) (inb : ∀ a, o a + S512.size a ≤ S3072.size a)
    (inb' : ∀ a, (![0, 0] : Fin 2 → ℕ) a + S100000x128.size a ≤ S100000x128.size a) (hs) (hs') (hn)
    (h : ∀ x, (((lV).slice (Rect.unit (s := S3072) o S512.size inb) hs).view.read (Elt F) (words ix d L) x).toNat
      < S100000x128.size gathers_S100000x128_S512x128.axis) (hin : InRange ix) (x : S512x128.Idx) :
    SparseCore.gatherPayload gathers_S100000x128_S512x128
        (((xV).slice (Rect.unit (s := S100000x128) ![0, 0] S100000x128.size inb') hs').view.read (Elt F) (tb d))
        (SparseCore.rows (((lV).slice (Rect.unit (s := S3072) o S512.size inb) hs).view.read (Elt F) (words ix d L)) hn h) x
      = gath (tb d) (ix d) ((oRect L r).emb x) := by
  unfold SparseCore.gatherPayload gath
  change tb d ((Rect.unit (s := S100000x128) ![0, 0] S100000x128.size inb').emb _) = _
  congr 1
  funext a
  match a with
  | 0 =>
    refine Fin.ext ?_
    change 0 + 1 * (gathers_S100000x128_S512x128.idx _ x gathers_S100000x128_S512x128.axis).val = (rowOf _).val
    rw [Shape.Gathers.idx_axis, rowOf_eq _ (hin d _), Nat.zero_add, Nat.one_mul]
    change (words ix d L ((Rect.unit (s := S3072) o S512.size inb).emb _)).toNat = (ix d _).toNat
    rw [words_apply]
    congr 2
    funext b
    match b with
    | 0 =>
      refine Fin.ext ?_
      change k0_off1 L 0 + 1 * (o 0 + 1 * (S512.rowMajor.symm _ 0).val) = k0_off2 L (BitVec.ofNat 32 (512 * r.val)) 0 + 1 * (x 0).val
      have e : ((S512.rowMajor.symm (Fin.cast hn.symm (x gathers_S100000x128_S512x128.axis'))) 0).val = (x 0).val := by
        rw [← Shape.rowMajor_val_one, Equiv.apply_symm_apply]; rfl
      rw [e, k0_off1_eq, k0_off2_eq, ho]
      simp only [Matrix.cons_val_zero]; omega
  | 1 =>
    refine Fin.ext ?_
    change 0 + 1 * (gathers_S100000x128_S512x128.idx _ x 1).val = k0_off2 L (BitVec.ofNat 32 (512 * r.val)) 1 + 1 * (x 1).val
    rw [Shape.Gathers.idx_of_ne _ _ _ _ (by decide), k0_off2_eq]; rfl

/-- A chunk of the gathered array, once written, holds its rows. -/
theorem chunk_pts (r : Fin 6) (p : S512x128.Idx → Elt F .f32) (hp : ∀ x, p x = gath (tb d) (ix d) ((oRect L r).emb x)) :
    ((oWin L r).view.loc (V d (cV L) (jV L)) ↦[(oWin L r).view.set]{fullShare}
        (oWin L r).view.writes (Elt F) (o₀ d) [⟨Rect.whole S512x128, p⟩] : sProp 𝕄)
      = oPts d (wid L) r (gath (tb d) (ix d)) := by
  rw [← oPts_eq]
  refine pointsTo_congr fun i hi => ?_
  obtain ⟨x, -, rfl⟩ := Finset.mem_map.mp hi
  rw [View.writes_singleton]
  have h := View.write_emb_of_mem (v := (oWin L r).view.slice (Rect.whole S512x128)) (Val := Elt F) (o₀ d) p (Finset.mem_univ x)
  rw [View.emb_slice, Function.Embedding.trans_apply, Rect.emb_whole_apply] at h
  exact h.trans (hp x)

end Cert.Proof.KernelIdeal

end
-- ==== Proof.KernelIdeal.Tile.lean ====
/-
  One tile's task, at a tile left symbolic.
-/
module

public import proofs.«01_k».proof.Proof.KernelIdeal.Chunk

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S98304 EltTy.i32)
local notation "oV" => (Memref.whole Cert.KernelIdeal.main_v1_scv : Memref Cert.KernelIdeal.sig Kind.scVector Space.hbm Cert.KernelIdeal.S98304x128 EltTy.f32)
local notation "lV" => (Memref.whole Cert.KernelIdeal.cc0_scratch0 : Memref Cert.KernelIdeal.sig Kind.scVector Space.vmem Cert.KernelIdeal.S3072 EltTy.i32)
local notation "aV" => (Memref.whole Cert.KernelIdeal.cc0_scratch1 : Memref Cert.KernelIdeal.sig Kind.scVector Space.vmem Cert.KernelIdeal.S512x128 EltTy.f32)
local notation "bV" => (Memref.whole Cert.KernelIdeal.cc0_scratch2 : Memref Cert.KernelIdeal.sig Kind.scVector Space.vmem Cert.KernelIdeal.S512x128 EltTy.f32)

variable (ix : (d : Dev nD) → Buf (Elt F) (iLoc d)) (tb : (d : Dev nD) → Buf (Elt F) (xLoc d)) (o₀ : (d : Dev nD) → Buf (Elt F) (oLoc d))
variable [FloatOps F] (d : Dev nD) (L : grid0.Coords)

/-! ## The task -/

set_option maxHeartbeats 4000000 in
theorem tile_body (hF : (K (F := F)).Facts) (hin : InRange ix) (O : CellTallies nD τ sig (HIx 1)) (W : Waits sig (HIx 1)) (hO : ∀ g, O g none = 0) :
    iprop(levAts (K (F := F)).L (K (F := F)).lev ∗ emp ∗ goP ix tb o₀ d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L xV (Memref.isWhole_whole _) iV (Memref.isWhole_whole _) oV (Memref.isWhole_whole _)
            lV (Memref.isWhole_whole _) aV (Memref.isWhole_whole _) bV (Memref.isWhole_whole _) cc0_scratch3 cc0_scratch4
            cc0_scoped0 cc0_scoped1 cc0_scoped2 cc0_scoped3 cc0_scoped4 cc0_scoped5 cc0_scoped6)
          fun _ => iprop(tdP ix tb d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho0, Ho1, Ho2, Ho3, Ho4, Ho5⟩, ⟨⟨⟨%fl, Hl⟩, ⟨%fa, Ha⟩, %fb, Hb⟩, Hbufs⟩,
    ⟨⟨Hsa, Hsb, Hs0, Hs1, Hs2, Hs3, Hs4, Hs5, Hs6⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (iPts_eq (F := F) d L _).symm) $$ Hi
  ihave Ho0' := (Entails.of_eq (oPts_eq (F := F) d L 0 _).symm) $$ Ho0
  ihave Ho1' := (Entails.of_eq (oPts_eq (F := F) d L 1 _).symm) $$ Ho1
  ihave Ho2' := (Entails.of_eq (oPts_eq (F := F) d L 2 _).symm) $$ Ho2
  ihave Ho3' := (Entails.of_eq (oPts_eq (F := F) d L 3 _).symm) $$ Ho3
  ihave Ho4' := (Entails.of_eq (oPts_eq (F := F) d L 4 _).symm) $$ Ho4
  ihave Ho5' := (Entails.of_eq (oPts_eq (F := F) d L 5 _).symm) $$ Ho5
  ihave Hx' := (Entails.of_eq (show (xPts tb d (wid L) : sProp 𝕄) = ((xV).view.loc (V d (cV L) (jV L)) ↦{xq (wid L)} tb d) from rfl)) $$ Hx
  ihave Hxt := (xPts_toks tb d L).1 $$ Hx'
  icases Hxt with ⟨Hxr, Hxa, Hxb⟩
  sl_exec
  ihave Hl' := (Entails.of_eq (show ((lV).view.loc (V d (cV L) (jV L)) ↦{fullShare} View.write (Elt F) (lV).view fl (tile_body.sl.dma0 ix d L) Finset.univ : sProp 𝕄)
      = (lV).view.loc (V d (cV L) (jV L)) ↦{fullShare} words ix d L by rw [View.write_whole_univ]; rfl)) $$ Hl
  have h0 := window_lt ix d L hin (Rect.unit (s := S3072) ![0] S512.size inb_S3072_S512_0) (fun _ => rfl)
  have h1 := window_lt ix d L hin (Rect.unit (s := S3072) ![512] S512.size inb_S3072_S512_512) (fun _ => rfl)
  have h2 := window_lt ix d L hin (Rect.unit (s := S3072) ![1024] S512.size inb_S3072_S512_1024) (fun _ => rfl)
  have h3 := window_lt ix d L hin (Rect.unit (s := S3072) ![1536] S512.size inb_S3072_S512_1536) (fun _ => rfl)
  have h4 := window_lt ix d L hin (Rect.unit (s := S3072) ![2048] S512.size inb_S3072_S512_2048) (fun _ => rfl)
  have h5 := window_lt ix d L hin (Rect.unit (s := S3072) ![2560] S512.size inb_S3072_S512_2560) (fun _ => rfl)
  sl_exec
  sl_step
  have p0 : ∀ x, tile_body.sl.dma0_1 ix tb d L fa h0 x = gath (tb d) (ix d) ((oRect L 0).emb x) := fun x =>
    (congrFun (read_last cc0_scratch1 fa _ _) x).trans (chunk_pay ix tb d L 0 ![0] rfl _ _ _ _ _ h0 hin x)
  have p1 : ∀ x, tile_body.sl.dma0_2 ix tb d L fb h1 x = gath (tb d) (ix d) ((oRect L 1).emb x) := fun x =>
    (congrFun (read_last cc0_scratch2 fb _ _) x).trans (chunk_pay ix tb d L 1 ![512] rfl _ _ _ _ _ h1 hin x)
  have p2 : ∀ x, tile_body.sl.dma0_3 ix tb d L fa h0 h2 x = gath (tb d) (ix d) ((oRect L 2).emb x) := fun x =>
    (congrFun (read_last cc0_scratch1 fa _ _) x).trans (chunk_pay ix tb d L 2 ![1024] rfl _ _ _ _ _ h2 hin x)
  have p3 : ∀ x, tile_body.sl.dma0_4 ix tb d L fb h1 h3 x = gath (tb d) (ix d) ((oRect L 3).emb x) := fun x =>
    (congrFun (read_last cc0_scratch2 fb _ _) x).trans (chunk_pay ix tb d L 3 ![1536] rfl _ _ _ _ _ h3 hin x)
  have p4 : ∀ x, tile_body.sl.dma0_5 ix tb d L fa h0 h2 h4 x = gath (tb d) (ix d) ((oRect L 4).emb x) := fun x =>
    (congrFun (read_last cc0_scratch1 fa _ _) x).trans (chunk_pay ix tb d L 4 ![2048] rfl _ _ _ _ _ h4 hin x)
  have p5 : ∀ x, tile_body.sl.dma0_6 ix tb d L fb h1 h3 h5 x = gath (tb d) (ix d) ((oRect L 5).emb x) := fun x =>
    (congrFun (read_last cc0_scratch2 fb _ _) x).trans (chunk_pay ix tb d L 5 ![2560] rfl _ _ _ _ _ h5 hin x)
  ihave Ho0 := (Entails.of_eq (chunk_pts ix tb o₀ d L 0 _ p0)) $$ Ho0'
  ihave Ho1 := (Entails.of_eq (chunk_pts ix tb o₀ d L 1 _ p1)) $$ Ho1'
  ihave Ho2 := (Entails.of_eq (chunk_pts ix tb o₀ d L 2 _ p2)) $$ Ho2'
  ihave Ho3 := (Entails.of_eq (chunk_pts ix tb o₀ d L 3 _ p3)) $$ Ho3'
  ihave Ho4 := (Entails.of_eq (chunk_pts ix tb o₀ d L 4 _ p4)) $$ Ho4'
  ihave Ho5 := (Entails.of_eq (chunk_pts ix tb o₀ d L 5 _ p5)) $$ Ho5'
  ihave Hi := (Entails.of_eq (iPts_eq (F := F) d L _)) $$ Hi'
  ihave Hx := (xPts_toks tb d L).2 $$ [Hxr Hxa Hxb]
  · isplitl [Hxr]; · iexact Hxr
    isplitl [Hxa]; · iexact Hxa
    iexact Hxb
  isplitl [Hi Hx Ho0 Ho1 Ho2 Ho3 Ho4 Ho5]
  · isplitl [Hi]; · iexact Hi
    isplitl [Hx]; · iexact Hx
    isplitl [Ho0]; · iexact Ho0
    isplitl [Ho1]; · iexact Ho1
    isplitl [Ho2]; · iexact Ho2
    isplitl [Ho3]; · iexact Ho3
    isplitl [Ho4]; · iexact Ho4
    iexact Ho5
  isplitl [Hl' Ha Hb Hbufs]
  · isplitl [Hl' Ha Hb]
    · isplitl [Hl']; · iexists _; iexact Hl'
      isplitl [Ha]; · iexists _; iexact Ha
      iexists _; iexact Hb
    · iexact Hbufs
  isplitl [Hsa Hsb Hs0 Hs1 Hs2 Hs3 Hs4 Hs5 Hs6 Hsems]
  · isplitl [Hsa Hsb Hs0 Hs1 Hs2 Hs3 Hs4 Hs5 Hs6]
    · isplitl [Hsa]; · iexact Hsa
      isplitl [Hsb]; · iexact Hsb
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    · iexact Hsems
  iexists _
  isplitr
  rotate_left
  · iexact HO
  · ipureintro
    intro p hp
    simp only [Finset.mem_insert] at hp
    rcases hp with rfl | rfl | rfl | rfl | rfl | rfl | rfl | rfl | rfl | rfl | rfl | rfl | rfl | hp
    all_goals first | exact Or.inr rfl | exact Or.inl hp

end Cert.Proof.KernelIdeal

end
-- ==== Proof.KernelIdeal.Obl.lean ====
/-
  The tile's task as the launch theorem asks for it, and how a SparseCore's share is dealt to its sixteen tiles.
-/
module

public import proofs.«01_k».proof.Proof.KernelIdeal.Tile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S98304 EltTy.i32)
local notation "oV" => (Memref.whole Cert.KernelIdeal.main_v1_scv : Memref Cert.KernelIdeal.sig Kind.scVector Space.hbm Cert.KernelIdeal.S98304x128 EltTy.f32)
local notation "lV" => (Memref.whole Cert.KernelIdeal.cc0_scratch0 : Memref Cert.KernelIdeal.sig Kind.scVector Space.vmem Cert.KernelIdeal.S3072 EltTy.i32)
local notation "aV" => (Memref.whole Cert.KernelIdeal.cc0_scratch1 : Memref Cert.KernelIdeal.sig Kind.scVector Space.vmem Cert.KernelIdeal.S512x128 EltTy.f32)
local notation "bV" => (Memref.whole Cert.KernelIdeal.cc0_scratch2 : Memref Cert.KernelIdeal.sig Kind.scVector Space.vmem Cert.KernelIdeal.S512x128 EltTy.f32)

variable (ix : (d : Dev nD) → Buf (Elt F) (iLoc d)) (tb : (d : Dev nD) → Buf (Elt F) (xLoc d)) (o₀ : (d : Dev nD) → Buf (Elt F) (oLoc d))
variable [FloatOps F]

/-- The coordinates of tile `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- What a tile runs. -/
theorem task_eq (c : Fin τ.nSC) (s : Fin τ.nSub) :
    defs₀ (F := F) (.scVector c s) 0 ()
      = SparseCore.onTile hcore0 hsub0 (fun c s => cc0__gather_body (coords c s)
          xV (Memref.isWhole_whole _) iV (Memref.isWhole_whole _) oV (Memref.isWhole_whole _)
          lV (Memref.isWhole_whole _) aV (Memref.isWhole_whole _) bV (Memref.isWhole_whole _) cc0_scratch3 cc0_scratch4
          cc0_scoped0 cc0_scoped1 cc0_scoped2 cc0_scoped3 cc0_scoped4 cc0_scoped5 cc0_scoped6) ⟨⟩ c s := rfl

/-- The waits that the task records are its own or at no call, in particular among those the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %h, HO⟩
  iexists W'
  isplitr
  · ipureintro; exact fun p hp => (h p hp).imp_right Or.inl
  · iexact HO

set_option maxRecDepth 16384 in
/-- Every tile meets the launch's obligation. -/
theorem tileObl (hF : (K (F := F)).Facts) (hin : InRange ix) : (K (F := F)).TileObl (D (F := F)) 𝒱 (P ix tb o₀) v₀ 0 := by
  intro d c i O W hO _ _
  simp only [show (P ix tb o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_eq]; simp only [SparseCore.onTile, hci, and_self, ↓reduceDIte]
  exact (tile_body ix tb o₀ d (coords ⟨_, hci.1⟩ ⟨_, hci.2⟩) hF hin O W hO).trans (wp_mono frame _ _ fun _ => waits_weaken)

/-- A SparseCore's share is its sixteen tiles' together, and what they bring back is what it brings back. -/
theorem vecSplit : (K (F := F)).VecSplit' (P ix tb o₀) 0 := by
  intro d c
  show (bigSep Finset.univ fun i : Fin 16 => goP ix tb o₀ d (widOf (Fin.cast nCore_zero c) i)) ⊢ |={Set.univ}=> iprop(
      (bigSep Finset.univ fun i : Fin 16 => goP ix tb o₀ d (widOf (Fin.cast nCore_zero c) i))
      ∗ ((bigSep Finset.univ fun i : Fin 16 => tdP ix tb d (widOf (Fin.cast nCore_zero c) i))
          -∗ bigSep Finset.univ fun i : Fin 16 => tdP ix tb d (widOf (Fin.cast nCore_zero c) i)))
  iintro H; imodintro
  isplitl [H]; · iexact H
  iintro H; iexact H

end Cert.Proof.KernelIdeal

end
-- ==== Proof.KernelIdeal.Main.lean ====
/-
  The TensorCore's program: what its buffers hold from line to line, and its run — the index list flattened, the gather on
  the SparseCores, the gathered array and the biases reshaped, the network.
-/
module

public import proofs.«01_k».proof.Proof.KernelIdeal.Segment
public import proofs.«01_k».proof.Proof.KernelIdeal.Deal
public import proofs.«01_k».proof.Proof.KernelIdeal.Obl

@[expose] public section

noncomputable section

namespace Cert.Proof.KernelIdeal

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## What the buffers hold -/

/-- At the start; -/
def W0 (d : Dev nD) : Valuation τ sig (Elt F) := fun b => m (d, b)
/-- with the index list flattened; -/
def W1 (d : Dev nD) : Valuation τ sig (Elt F) :=
  (StableHlo.reshape main_arg0 main_v0 (rfl : (.i32 : EltTy) = .i32) shapeCasts_S16384x6_S98304).result (W0 m d)

/-- the list, the table and the array to fill, as the gather finds them; -/
def ixm (d : Dev nD) : Buf (Elt F) (iLoc d) := W1 m d main_v0
def tbm (d : Dev nD) : Buf (Elt F) (xLoc d) := W1 m d main_arg1
def om (d : Dev nD) : Buf (Elt F) (oLoc d) := W1 m d main_v1

/-- with the rows gathered; -/
def W2 (d : Dev nD) : Valuation τ sig (Elt F) := Function.update (W1 m d) main_v1 (gath (tbm m d) (ixm m d))
/-- with the rows six by six, -/
def W3 (d : Dev nD) : Valuation τ sig (Elt F) :=
  (StableHlo.reshape main_v1 main_v2 (rfl : (.f32 : EltTy) = .f32) shapeCasts_S98304x128_S16384x768).result (W2 m d)
/-- and the biases as rows; -/
def W4 (d : Dev nD) : Valuation τ sig (Elt F) :=
  (StableHlo.reshape main_arg3 main_v3 (rfl : (.f32 : EltTy) = .f32) shapeCasts_S128_S1x128).result (W3 m d)
def W5 (d : Dev nD) : Valuation τ sig (Elt F) :=
  (StableHlo.reshape main_arg5 main_v4 (rfl : (.f32 : EltTy) = .f32) shapeCasts_S91_S1x91).result (W4 m d)
/-- what the network finds; -/
def Xm (d : Dev nD) (b : Ref sig .tc) : Buf (Elt F) ((d.tc : Thread nD τ).loc b) := W5 m d b
/-- with the network's result. -/
def W6 (d : Dev nD) : Valuation τ sig (Elt F) := Function.update (W5 m d) main_v5 (net (Xm m) d)
def Ym (d : Dev nD) (b : Ref sig .tc) : Buf (Elt F) ((d.tc : Thread nD τ).loc b) := W6 m d b

theorem Ym_out (d : Dev nD) : Ym m d main_v5 = net (Xm m) d := by
  unfold Ym W6; exact Function.update_self ..
theorem Ym_ne (d : Dev nD) (b : Ref sig .tc) (h : b ≠ main_v5) : Ym m d b = Xm m d b :=
  Function.update_of_ne (fun e => h (Proc.devRef_injective _ e)) ..

/-! ## The gather's buffers -/

/-- The three buffers that the gather works on. -/
abbrev three : Finset (DevRef τ sig) := {(main_v0 : DevRef τ sig), (main_arg1 : DevRef τ sig), (main_v1 : DevRef τ sig)}

theorem three_sub : three ⊆ Pipeline.ucRefs τ sig := by decide

theorem held_three (d : Dev nD) (V : Valuation τ sig (Elt F)) : (StableHlo.held (SparseCore.T d) three V : sProp 𝕄)
    = iprop((iLoc d ↦{fullShare} (V main_v0 : Buf (Elt F) (iLoc d))) ∗ (xLoc d ↦{fullShare} (V main_arg1 : Buf (Elt F) (xLoc d)))
      ∗ (oLoc d ↦{fullShare} (V main_v1 : Buf (Elt F) (oLoc d)))) := by
  unfold StableHlo.held three
  rw [SparseCore.bigSep_insert' (by decide), SparseCore.bigSep_insert' (by decide), bigSep_singleton]

/-- Filling the array changes nothing else. -/
theorem held_rest (d : Dev nD) : (StableHlo.held (SparseCore.T d) (Pipeline.ucRefs τ sig \ three) (W1 m d) : sProp 𝕄)
    = StableHlo.held (SparseCore.T d) (Pipeline.ucRefs τ sig \ three) (W2 m d) :=
  StableHlo.held_congr _ fun b hb => (Function.update_of_ne (fun e => (Finset.mem_sdiff.mp hb).2 (by rw [e]; decide)) ..).symm

theorem W2_v0 (d : Dev nD) : W2 m d main_v0 = ixm m d := Function.update_of_ne (by decide) ..
theorem W2_arg1 (d : Dev nD) : W2 m d main_arg1 = tbm m d := Function.update_of_ne (by decide) ..
theorem W2_v1 (d : Dev nD) : W2 m d main_v1 = gath (tbm m d) (ixm m d) := Function.update_self ..

/-- The buffers before the gather: the tiles' parts, and the rest; -/
theorem before_gather (d : Dev nD) : (StableHlo.held (SparseCore.T d) (Pipeline.ucRefs τ sig) (W1 m d) : sProp 𝕄)
    ⊢ iprop((bigSep Finset.univ fun c : Fin 2 => bigSep Finset.univ fun i : Fin 16 => tileP (ixm m) (tbm m) d (om m d) (widOf c i))
      ∗ ((bigSep Finset.univ fun c : Fin 2 => bigSep Finset.univ fun i : Fin 16 => tileP (ixm m) (tbm m) d (gath (tbm m d) (ixm m d)) (widOf c i))
        -∗ StableHlo.held (SparseCore.T d) (Pipeline.ucRefs τ sig) (W2 m d))) := by
  rw [StableHlo.held_sub_split _ three_sub, StableHlo.held_sub_split _ three_sub (W2 m d), held_three, held_three, held_rest,
    W2_v0, W2_arg1, W2_v1, show W1 m d main_v0 = ixm m d from rfl, show W1 m d main_arg1 = tbm m d from rfl,
    show W1 m d main_v1 = om m d from rfl]
  iintro ⟨Hthree, Hrest⟩
  ihave H := (dealt (ixm m) (tbm m) d (om m d)).1 $$ Hthree
  icases H with ⟨Hx, Htiles⟩
  isplitl [Htiles]; · iexact Htiles
  iintro Htiles
  isplitr [Hrest]
  · iapply (dealt (ixm m) (tbm m) d (gath (tbm m d) (ixm m d))).2
    isplitl [Hx] <;> iassumption
  · iexact Hrest

end Cert.Proof.KernelIdeal

end
-- ==== Proof.KernelIdeal.Run.lean ====
/-
  The run of the TensorCore's program, in the launch.
-/
module

public import proofs.«01_k».proof.Proof.KernelIdeal.Main

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- What the network's call is given besides the buffers: its staging cells' ghost state. -/
abbrev cellsG (d : Dev nD) : sProp 𝕄 :=
  iprop(Pipeline.cellsGhost (Pipeline.pin (pcfgs (F := F)) adm) EP 0 d ∗ Pipeline.toksInit (Pipeline.pin (pcfgs (F := F)) adm) EP 0 d)

/-- What is left at the end: every buffer at its last contents. -/
abbrev FIN (d : Dev nD) : sProp 𝕄 := unscopedBufs d (Ym m d)

/-- The network's call, below the SparseCore launch. -/
def netCall : Prog (TpuEff nD τ sig (Elt F) (ΛP (F := F)) .tc) PUnit := .op (.customCall (Pipeline.entry 0) ()) .ret

/-- In the program it stands lifted over the launch. -/
theorem netCall_lift : (Prog.lift (.customCall (SparseCore.inner (Pipeline.entry 0)) ()) :
    Prog (TpuEff nD τ sig (Elt F) (SparseCore.Sig (ΛP (F := F)) 1) .tc) PUnit) = SparseCore.liftProg (Q := 1) (netCall (F := F)) := rfl

/-- The network's call, run below the launch. -/
theorem netCall_run [∀ e, Nonempty (Elt F e)] (d : Dev nD) (Q : PUnit → sProp 𝕄) :
    iprop((iprop(boundary (SparseCore.T d) ∗ unscopedBufs d (Ym m d) ∗ ∃ W, ⌜(K (F := F)).WBelow (SparseCore.T d) W 8⌝ ∗ owes (SparseCore.T d) 0 W) -∗ Q ⟨⟩)
        ∗ boundary (SparseCore.T d) ∗ unscopedBufs d (Xm m d) ∗ (∃ W, ⌜(K (F := F)).WBelow (SparseCore.T d) W 8⌝ ∗ owes (SparseCore.T d) 0 W) ∗ cellsG d)
      ⊢ wp frame (wpE (D (F := F)) 𝒱 (SparseCore.T d) none) Set.univ (netCall (F := F)) Q := by
  unfold netCall
  have hwp := Pipeline.RegionSeg.wp (pcfgs (F := F)) adm (pdats (Xm m)) (none : HIx 1) cellOf_inj EP defs₀ 𝒱₀ noLev lev0
    (reg (Xm m) (Ym m) (Ym_out m) (Ym_ne m)) d none (fun _ h => nomatch h) Prog.ret Q
  rw [show (reg (Xm m) (Ym m) (Ym_out m) (Ym_ne m)).pre d = iprop(unscopedBufs d (Xm m d)
      ∗ ∃ W, ⌜(K (F := F)).WBelow (SparseCore.T d) W 8⌝ ∗ owes (SparseCore.T d) 0 W) from rfl,
    show (reg (Xm m) (Ym m) (Ym_out m) (Ym_ne m)).post d = iprop(unscopedBufs d (Ym m d)
      ∗ ∃ W, ⌜(K (F := F)).WBelow (SparseCore.T d) W 8⌝ ∗ owes (SparseCore.T d) 0 W) from rfl] at hwp
  iintro ⟨HQ, Hb, Hu, HO, Hg, Ht⟩
  iapply hwp
  isplitl [HQ]
  · iintro ⟨Hb, Hu, HO⟩
    sl_step
    iapply HQ
    isplitl [Hb]; · iexact Hb
    isplitl [Hu]; · iexact Hu
    iexact HO
  isplitl [Hb]; · iexact Hb
  isplitl [Hu HO]
  · isplitl [Hu]; · iexact Hu
    iexact HO
  isplitr
  · unfold levAts; simp only [noLev, BI.bigSep_empty]; rw [bigSep_emp_const]; iempintro
  isplitl [Hg] <;> iassumption

/-- The network's call, run from the buffers after the gather. -/
theorem region_run [∀ e, Nonempty (Elt F e)] (d : Dev nD) :
    iprop(boundary (SparseCore.T d) ∗ unscopedBufs d (Xm m d) ∗ (K (F := F)).tcSt EH d 1 ∗ cellsG d)
      ⊢ wp frame (wpE ((K (F := F)).defs (D (F := F))) 𝒱 (SparseCore.T d) none) Set.univ
          (SparseCore.liftProg (Q := 1) (netCall (F := F)))
          fun _ => iprop(boundary (SparseCore.T d) ∗ unscopedBufs d (Ym m d) ∗ (K (F := F)).tcSt EH d 1) := by
  unfold SparseCore.Cfg.tcSt
  rw [(K (F := F)).Otc_end d (le_refl 1), show 8 * SparseCore.Cfg.Blocks.fst 1 1 1 = 8 from rfl]
  iintro ⟨Hb, Hu, ⟨HO, Hrest⟩, Hg⟩
  iapply ((K (F := F)).wp_liftProg (D (F := F)) 𝒱 (SparseCore.T d) Set.univ none (netCall (F := F)))
  iapply (netCall_run m d)
  isplitl [Hrest]
  · iintro ⟨Hb, Hu, HO⟩
    isplitl [Hb]; · iexact Hb
    isplitl [Hu]; · iexact Hu
    isplitl [HO]; · iexact HO
    iexact Hrest
  isplitl [Hb]; · iexact Hb
  isplitl [Hu]; · iexact Hu
  isplitl [HO]; · iexact HO
  iexact Hg

end Cert.Proof.KernelIdeal

end
-- ==== Proof.KernelIdeal.Whole.lean ====
/-
  The whole run: the program of the TensorCore, the launch's ghost state, and what every execution ends in.
-/
module

public import proofs.«01_k».proof.Proof.KernelIdeal.Run

@[expose] public section

noncomputable section

namespace Cert.Proof.KernelIdeal

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- An operation of the TensorCore's program, run over the buffers at `W`, leaves them at `W'`. -/
theorem wp_op (op : HloOp τ sig (Elt F)) (d : Dev nD) (hop : op.bufs ⊆ StableHlo.tcRefs τ sig) (hf : op.fresh = ∅) {W W' : Valuation τ sig (Elt F)}
    (hW : W' = op.result W) {k : ((b : op.writes) → b.1.ty.Contents (Elt F)) → Prog (TpuEff nD τ sig (Elt F) (SparseCore.Sig (ΛP (F := F)) 1) .tc) PUnit}
    {Q : PUnit → sProp 𝕄} :
    iprop(boundary (SparseCore.T d) ∗ StableHlo.held (SparseCore.T d) (Pipeline.ucRefs τ sig) W
        ∗ ((boundary (SparseCore.T d) ∗ StableHlo.held (SparseCore.T d) (Pipeline.ucRefs τ sig) W')
          -∗ wp frame (wpE ((K (F := F)).defs (D (F := F))) 𝒱 (SparseCore.T d) none) Set.univ (k (op.fn fun b => W b.1)) Q))
      ⊢ wp frame (wpE ((K (F := F)).defs (D (F := F))) 𝒱 (SparseCore.T d) none) Set.univ (hlo rfl op k) Q := by
  subst hW
  iintro ⟨Hb, Hh, Hk⟩
  iapply (StableHlo.wp_hlo_within 𝒱 (SparseCore.T d) none Set.univ (Pipeline.sub_ucRefs op hop) (hf := hf)) $$ [Hb Hh]
  · isplitl [Hb] <;> iassumption
  iexact Hk

/-- The TensorCore's program. -/
theorem hmain [∀ e, Nonempty (Elt F e)] (κ : GSem nD τ sig → ℕ) (d : Dev nD) :
    iprop((K (F := F)).ctx EH (P (ixm m) (tbm m) (om m)) κ ∗ (K (F := F)).tcSt EH d 0 ∗ (K (F := F)).tcRes m ρ d ∗ cellsG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (W0 m d)
    from Pipeline.unscopedBufs_held d (W0 m d)]
  simp only [main, wp_bind, wp_pure, netCall_lift]
  iintro ⟨#Hctx, Hst, ⟨Hb, Hh, Hts, -⟩, Hg⟩
  iapply (wp_op _ d (StableHlo.reshape_bufs_sub _ _ _ _ _ _) rfl (W := W0 m d) (W' := W1 m d) rfl)
  isplitl [Hb]; · iexact Hb
  isplitl [Hh]; · iexact Hh
  iintro ⟨Hb, Hh⟩
  rw [wp_ret]; imodintro
  ihave H := (before_gather m d) $$ Hh
  icases H with ⟨Htiles, Hback⟩
  iapply ((K (F := F)).wp_run (D (F := F)) 𝒱 (EH := EH) (P := P (ixm m) (tbm m) (om m)) κ d 0)
  isplitr; · iexact Hctx
  isplitl [Hst]; · iexact Hst
  isplitl [Htiles]; · rw [st_eq]; iexact Htiles
  rw [dn_eq]
  iintro ⟨Hst, Htiles⟩
  ihave Hh := Hback $$ Htiles
  iapply (wp_op _ d (StableHlo.reshape_bufs_sub _ _ _ _ _ _) rfl (W := W2 m d) (W' := W3 m d) rfl)
  isplitl [Hb]; · iexact Hb
  isplitl [Hh]; · iexact Hh
  iintro ⟨Hb, Hh⟩
  rw [wp_ret]; imodintro
  iapply (wp_op _ d (StableHlo.reshape_bufs_sub _ _ _ _ _ _) rfl (W := W3 m d) (W' := W4 m d) rfl)
  isplitl [Hb]; · iexact Hb
  isplitl [Hh]; · iexact Hh
  iintro ⟨Hb, Hh⟩
  rw [wp_ret]; imodintro
  iapply (wp_op _ d (StableHlo.reshape_bufs_sub _ _ _ _ _ _) rfl (W := W4 m d) (W' := W5 m d) rfl)
  isplitl [Hb]; · iexact Hb
  isplitl [Hh]; · iexact Hh
  iintro ⟨Hb, Hh⟩
  rw [wp_ret]; imodintro
  ihave Hu := (Entails.of_eq (Pipeline.unscopedBufs_held d (W5 m d)).symm) $$ Hh
  ihave H := (region_run m d) $$ [Hb Hu Hst Hg]
  · isplitl [Hb]; · iexact Hb
    isplitl [Hu]; · iexact Hu
    isplitl [Hst]; · iexact Hst
    iexact Hg
  iapply (wp_wand _ _ _) $$ H
  iintro %x ⟨Hb, Hu, Hst⟩
  imodintro
  isplitl [Hst]; · iexact Hst
  isplitl [Hu]; · iexact Hu
  isplitl [Hb] <;> iassumption

/-- The ghost state at the start: the handshakes' cells, and the staging cells. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

variable (ix : (d : Dev nD) → Buf (Elt F) (iLoc d)) (tb : (d : Dev nD) → Buf (Elt F) (xLoc d)) (o₀ : (d : Dev nD) → Buf (Elt F) (oLoc d))

/-- It is dealt to the launch and to each device's network. -/
theorem hu₀ : (ownU (u₀ (F := F)) : sProp 𝕄)
    ⊢ |={Set.univ}=> iprop(BI.own (EH (initOf (K (F := F)).hsCells (K (F := F)).hsToks)) ∗ (bigSep Finset.univ fun d : Dev nD => cellsG d)
        ∗ bigSep Finset.univ fun thr : Thread nD τ => bigSep Finset.univ fun q : Fin 1 => (P ix tb o₀).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) adm) (EP (F := F)) cellOf_inj) $$ HP with ⟨Hc, Ht⟩
  imodintro
  isplitl [HH]; · iexact HH
  isplitl
  · unfold cellsG
    rw [bigSep_sep']
    isplitl [Hc]
    · iapply (Entails.of_eq (bigSep_congr fun d _ => bigSep_univ_of_subsingleton (0 : Fin 1)
        (Φ := fun p => Pipeline.cellsGhost (Pipeline.pin (pcfgs (F := F)) adm) EP p d))); iexact Hc
    · iapply (Entails.of_eq (bigSep_congr fun d _ => bigSep_univ_of_subsingleton (0 : Fin 1)
        (Φ := fun p => Pipeline.toksInit (Pipeline.pin (pcfgs (F := F)) adm) EP p d))); iexact Ht
  · rw [show (bigSep Finset.univ fun thr : Thread nD τ => bigSep Finset.univ fun q : Fin 1 => (P ix tb o₀).x q thr) = bigSep Finset.univ fun _ => BI.emp from
      bigSep_congr fun thr _ => bigSep_emp_const _, bigSep_emp_const]
    iempintro

/-- What the end says of device `d`: every buffer that no region scopes holds its last contents. -/
def fq (d : Dev nD) (s' : Phys nD τ sig (Elt F)) : Prop :=
  ∀ b ∈ (Finset.univ.filter fun b : Ref sig .tc => ¬ b.isScoped), s'.mem.mem ((d.tc : Thread nD τ).loc b) = Ym m d b

theorem hfin (d : Dev nD) (s' : Phys nD τ sig (Elt F)) : iprop(FIN m d ∗ SI s') ⊢ (⌜fq m d s'⌝ : sProp 𝕄) := by
  unfold FIN unscopedBufs
  iintro H
  ihave H := (pointsTo_read_all _ (fun b : Ref sig .tc => (d.tc : Thread nD τ).loc b) (fun b => Ym m d b) s') $$ H
  icases H with ⟨%h, -⟩
  ipureintro
  exact h

/-- What every execution ends in. -/
def QC : PUnit × MemSt nD τ sig (Elt F) → Prop := fun r =>
  (∀ d : Dev nD, ∀ b ∈ (Finset.univ.filter fun b : Ref sig .tc => ¬ b.isScoped), r.2.mem ((d.tc : Thread nD τ).loc b) = Ym m d b) ∧ r.2.sem = fun _ => 0

/-- Every execution ends in it, when each index names a row of the table. -/
theorem run_main [∀ e, Nonempty (Elt F e)] (hin : InRange (ixm m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ixm m) (tbm m) (om m)) (A := ∅) facts v₀
    (fun q hq => match q with | 0 => nomatch hq)
    (fun q _ => match q with | 0 => tileObl (ixm m) (tbm m) (om m) facts hin)
    (fun q _ => match q with | 0 => SparseCore.Cfg.VecSplit.of_plain (vecSplit (ixm m) (tbm m) (om m)))
    m ρ main (fun d => cellsG d) (FIN m) (u₀ (F := F)) (sep_elim_left.trans (hu₀ (ixm m) (tbm m) (om m))) (hmain m ρ) (fq m) (hfin m) (QC m)
    (fun _ h hz => ⟨h, hz⟩)

end Cert.Proof.KernelIdeal

end
-- ==== Proof.KernelIdeal.Frame.lean ====
/-
  What the run says of the arguments: each ends as it began.
-/
module

public import proofs.«01_k».proof.Proof.KernelIdeal.Whole
public import proofs.«01_k».proof.Proof.Common.Rows
public import proofs.«01_k».proof.Defs
public import proofs.«01_k».proof.Proof.Gen.Pre_in_range

@[expose] public section

noncomputable section

namespace Cert.Proof.KernelIdeal

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Arguments

variable [FloatOps F]
variable (m : (ℓ : Loc nD τ sig) → Buf (Elt F) ℓ) (ρ : Dev nD → PrngReg)

/-- The flattened index list, entry by entry. -/
theorem ixm_apply (d : Dev nD) (j : S98304.Idx) :
    ixm m d j = shapeCast S98304 (m ((d.tc : Thread nD τ).loc main_arg0) : S16384x6.Idx → BitVec 32) shapeCasts_S16384x6_S98304 j := by
  unfold ixm W1
  rw [StableHlo.reshape_result]
  rfl

/-- When every index names a row, so does every entry of the list. -/
theorem inRange_of (h : ∀ (d : Dev nD) (i : S16384x6.Idx), ((m ((d.tc : Thread nD τ).loc main_arg0) : S16384x6.Idx → BitVec 32) i).toNat < 100000) :
    InRange (ixm m) := fun d j => by
  rw [ixm_apply]
  exact h d _

/-- A buffer that the program writes nowhere holds at the end what it held at the start. -/
theorem Ym_arg (d : Dev nD) (b : Ref sig .tc) (h0 : b ≠ main_v0) (h1 : b ≠ main_v1) (h2 : b ≠ main_v2) (h3 : b ≠ main_v3) (h4 : b ≠ main_v4)
    (h5 : b ≠ main_v5) : Ym m d b = m ((d.tc : Thread nD τ).loc b) := by
  rw [Ym_ne m d b h5]
  unfold Xm W5
  rw [StableHlo.reshape_result_ne (h := h4)]
  unfold W4
  rw [StableHlo.reshape_result_ne (h := h3)]
  unfold W3
  rw [StableHlo.reshape_result_ne (h := h2)]
  unfold W2
  rw [Function.update_of_ne (fun e => h1 (Proc.devRef_injective _ e))]
  unfold W1
  rw [StableHlo.reshape_result_ne (h := h0)]
  rfl

/-- What the end says of the arguments and of the result. -/
theorem run_args [∀ e, Nonempty (Elt F e)] (hin : InRange (ixm m)) :
    θ_run (Cert.KernelIdeal.defs (F := F)) (Cert.KernelIdeal.threads (F := F)) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ (∀ c : Dev nD, r.2.mem ((c.tc : Thread nD τ).loc main_v5) = net (Xm m) c) ∧ r.2.sem = fun _ => 0) :=
  (θ_run Cert.KernelIdeal.defs _ _).mono (fun r h => by
    have key : ∀ (c : Dev nD) (b : Ref sig .tc), ¬ b.isScoped → r.2.mem ((c.tc : Thread nD τ).loc b) = Ym m c b := fun c b hb =>
      h.1 c b (Finset.mem_filter.mpr ⟨Finset.mem_univ _, hb⟩)
    refine ⟨fun c => ⟨?_, ?_, ?_, ?_, ?_, ?_⟩, fun c => ?_, h.2⟩
    · exact (key c main_arg0 (by decide)).trans (Ym_arg m c main_arg0 (by decide) (by decide) (by decide) (by decide) (by decide) (by decide))
    · exact (key c main_arg1 (by decide)).trans (Ym_arg m c main_arg1 (by decide) (by decide) (by decide) (by decide) (by decide) (by decide))
    · exact (key c main_arg2 (by decide)).trans (Ym_arg m c main_arg2 (by decide) (by decide) (by decide) (by decide) (by decide) (by decide))
    · exact (key c main_arg3 (by decide)).trans (Ym_arg m c main_arg3 (by decide) (by decide) (by decide) (by decide) (by decide) (by decide))
    · exact (key c main_arg4 (by decide)).trans (Ym_arg m c main_arg4 (by decide) (by decide) (by decide) (by decide) (by decide) (by decide))
    · exact (key c main_arg5 (by decide)).trans (Ym_arg m c main_arg5 (by decide) (by decide) (by decide) (by decide) (by decide) (by decide))
    · exact (key c main_v5 (by decide)).trans (Ym_out m c)) (run_main m ρ hin)

end Arguments

/-- The frame claim: it runs, its arguments end unchanged, every semaphore ends at zero. -/
theorem frame : Cert.quiescent_KernelIdeal := fun m ρ hpre =>
  (θ_run Cert.KernelIdeal.defs _ _).mono (fun _ h => ⟨h.1, h.2.2⟩)
    (run_args m ρ (inRange_of m fun d i => Rows.lt_of_pre _ _ _ _ _ _ (hpre d) i))

end Cert.Proof.KernelIdeal

end
-- ==== Proof.ReferenceIdeal.Frame.lean ====
/-
  The reference's run: it ends with its arguments unchanged, and it has no semaphore.
-/
module

public import proofs.«01_k».proof.Defs
public import proofs.«01_k».proof.Proof.Gen.ReferenceIdeal.Run
public import proofs.«01_k».proof.Proof.Gen.Pre_in_range
public import Idealize.ShloMosaic.Lib.Quiescent

@[expose] public section

noncomputable section

namespace Cert.Proof.ReferenceIdeal

open Idealize.ShloMosaic Idealize.SL.Sem

/-- The frame claim, for any arguments. -/
theorem frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So for the arguments whose indices name rows. -/
theorem frame_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.ReferenceIdeal

end
-- ==== Proof.Value.Row.lean ====
/-
  The network of one row of gathered table entries, as the kernel and the reference both compute it: a hidden layer with
  a bias and a positive part, an output layer with a bias, and the logarithm of the normalized exponentials.
-/
module

public import Idealize.ShloMosaic.Lib.Pointwise

@[expose] public section

noncomputable section

namespace Cert.Proof.Value

open Idealize.ShloMosaic
open scoped BigOperators

/-- Unit `k` of the hidden layer. -/
def hid (x : Fin 768 → EReal) (w1 : Fin 768 → Fin 128 → EReal) (b1 : Fin 128 → EReal) (k : Fin 128) : EReal :=
  max (∑ j, x j * w1 j k + b1 k) 0

/-- Output `o` before it is normalized. -/
def lgt (x : Fin 768 → EReal) (w1 : Fin 768 → Fin 128 → EReal) (b1 : Fin 128 → EReal) (w2 : Fin 128 → Fin 91 → EReal)
    (b2 : Fin 91 → EReal) (o : Fin 91) : EReal :=
  ∑ k, hid x w1 b1 k * w2 k o + b2 o

/-- The greatest of a row's outputs, the fold begun from the word of minus infinity. -/
def top (z : Fin 91 → EReal) : EReal := Finset.univ.fold max (Ideal.ofBits .f32 0xFF800000#32) z

/-- The logarithm of output `o`'s share. -/
def lsm (z : Fin 91 → EReal) (o : Fin 91) : EReal := z o - top z - Ideal.log (∑ p, Ideal.exp (z p - top z))

/-- One more maximum with the fold's start changes nothing. -/
theorem max_top (z : Fin 91 → EReal) : max (Ideal.ofBits .f32 0xFF800000#32) (top z) = top z :=
  max_eq_right ((Finset.le_fold_max _).mpr (Or.inl le_rfl))

end Cert.Proof.Value

end
-- ==== Proof.Value.Ref.lean ====
/-
  The reference's result, entry by entry: the network of a row of the values it takes from the table.
-/
module

public import proofs.«01_k».proof.Proof.Gen.ReferenceIdeal.Run
public import proofs.«01_k».proof.Proof.Value.Row

@[expose] public section

noncomputable section

namespace Cert.Proof.Value

open Idealize.ShloMosaic Idealize.ShloMosaic.TcCoe Cert.ReferenceIdeal Cert.ReferenceIdeal.Gen

/-- The indices as the reference reads them: a negative one has the number of rows added. -/
def start (ix : IVec S16384x6 32) : IVec S16384x6x1 32 :=
  broadcastInDim S16384x6x1 ![0, 1] bcast_S16384x6_S16384x6x1_0_1
    (select (cmpi .slt ix (broadcastInDim S16384x6 ![] bcast_S_S16384x6 (constantI S_ 32 0#32)))
      (addi ix (broadcastInDim S16384x6 ![] bcast_S_S16384x6 (constantI S_ 32 100000#32))) ix)

/-- Which of them name a row. -/
def mask (ix : IVec S16384x6 32) : IVec S16384x6 1 :=
  Host.reduce IntOp.andi
    (andi (cmpi .sge (start ix) (broadcastInDim S16384x6x1 ![] bcast_S_S16384x6x1 (constantI S_ 32 0#32)))
      (cmpi .sle (start ix) (broadcastInDim S16384x6x1 ![0, 1, 2] bcast_S1x1x1_S16384x6x1_0_1_2
        (broadcastInDim S1x1x1 ![2] bcast_S1_S1x1x1_2 (constantI S1 32 99999#32)))))
    (constantI S_ 1 1#1) reducesTo_S16384x6x1_S16384x6_d2 h_S_

/-- The rows the reference takes, the six of an example side by side. -/
def take (tb : FVec Ideal S100000x128 .f32) (ix : IVec S16384x6 32) : FVec Ideal S16384x768 .f32 :=
  shapeCast S16384x768
    (select (broadcastInDim S16384x6x128 ![0, 1] bcast_S16384x6_S16384x6x128_0_1 (mask ix))
      (Host.gather gather_S100000x128_S16384x6x1_S16384x6x128_2_0_n_n_0_2_1128 tb (start ix))
      (broadcastInDim S16384x6x128 ![] bcast_S_S16384x6x128 (constant S_ .f32 0x7FC00000#32)))
    shapeCasts_S16384x6x128_S16384x768

/-- The reference's outputs before they are normalized. -/
def outs (x : FVec Ideal S16384x768 .f32) (w1 : FVec Ideal S768x128 .f32) (b1 : FVec Ideal S128 .f32) (w2 : FVec Ideal S128x91 .f32)
    (b2 : FVec Ideal S91 .f32) : FVec Ideal S16384x91 .f32 :=
  addf (Host.dotGeneral dot_S16384x128_S128x91_S16384x91_1_0_0_1_n_n none
      (maximumf
        (addf (Host.dotGeneral dot_S16384x768_S768x128_S16384x128_1_0_0_1_n_n none x w1)
          (broadcastInDim S16384x128 ![0, 1] bcast_S1x128_S16384x128_0_1 (broadcastInDim S1x128 ![1] bcast_S128_S1x128_1 b1)))
        (broadcastInDim S16384x128 ![] bcast_S_S16384x128 (constant S_ .f32 0x00000000#32)))
      w2)
    (broadcastInDim S16384x91 ![0, 1] bcast_S1x91_S16384x91_0_1 (broadcastInDim S1x91 ![1] bcast_S91_S1x91_1 b2))

/-- The outputs less their row's greatest. -/
def cent (z : FVec Ideal S16384x91 .f32) : FVec Ideal S16384x91 .f32 :=
  subf z (broadcastInDim S16384x91 ![0, 1] bcast_S16384x1_S16384x91_0_1 (broadcastInDim S16384x1 ![0] bcast_S16384_S16384x1_0
    (maximumf (broadcastInDim S16384 ![] bcast_S_S16384 (constant S_ .f32 0xFF800000#32))
      (Host.reduce FloatOps.maximumf z (constant S_ .f32 0xFF800000#32) reducesTo_S16384x91_S16384_d1 h_S_))))

/-- Their normalization. -/
def norm (z : FVec Ideal S16384x91 .f32) : FVec Ideal S16384x91 .f32 :=
  subf (cent z) (broadcastInDim S16384x91 ![0, 1] bcast_S16384x1_S16384x91_0_1 (Host.log (broadcastInDim S16384x1 ![0] bcast_S16384_S16384x1_0
    (Host.reduceAdd (Host.exp (cent z)) (constant S_ .f32 0x00000000#32) reducesTo_S16384x91_S16384_d1 h_S_))))

/-- Output `o` of example `r`. -/
theorem outs_apply (x : FVec Ideal S16384x768 .f32) (w1 : FVec Ideal S768x128 .f32) (b1 : FVec Ideal S128 .f32) (w2 : FVec Ideal S128x91 .f32)
    (b2 : FVec Ideal S91 .f32) (r : Fin 16384) (o : Fin 91) :
    outs x w1 b1 w2 b2 (ix2 r o)
      = lgt (fun j => x (ix2 r j)) (fun j k => w1 (ix2 j k)) (fun k => b1 (ix1 k)) (fun k o => w2 (ix2 k o)) (fun o => b2 (ix1 o)) o := by
  pointwise [outs]
  rfl

/-- It less the example's greatest. -/
theorem cent_apply (z : FVec Ideal S16384x91 .f32) (r : Fin 16384) (o : Fin 91) :
    cent z (ix2 r o) = z (ix2 r o) - top fun o => z (ix2 r o) := by
  rw [← max_top]
  pointwise [cent]
  rfl

/-- Its normalization. -/
theorem norm_apply (z : FVec Ideal S16384x91 .f32) (r : Fin 16384) (o : Fin 91) :
    norm z (ix2 r o) = lsm (fun o => z (ix2 r o)) o := by
  pointwise [norm]
  simp only [cent_apply]
  rfl

end Cert.Proof.Value

end
-- ==== Proof.Value.Take.lean ====
/-
  What the reference takes from the table when every index names a row: no index is negative, none is masked, and the
  clamp of the gather's starts changes none, so an example's entries are the entries of the rows it names.
-/
module

public import proofs.«01_k».proof.Proof.Value.Ref
public import Idealize.ShloMosaic.Lib.ReduceAll
public import Idealize.ShloMosaic.Lib.Affine

@[expose] public section

noncomputable section

namespace Cert.Proof.Value

open Idealize.ShloMosaic Cert.ReferenceIdeal Cert.ReferenceIdeal.Gen

/-- A word below the number of rows is the same read signed. -/
theorem toInt_of_lt {v : BitVec 32} (h : v.toNat < 100000) : v.toInt = v.toNat := by
  rw [BitVec.toInt_eq_toNat_cond]
  split <;> omega

/-- The gather read at an entry: the row of its start index, clamped into the table. -/
theorem gather_apply (tb : FVec Ideal S100000x128 .f32) (ix : IVec S16384x6x1 32) (r : Fin 16384) (a : Fin 6) (l : Fin 128) :
    Host.gather gather_S100000x128_S16384x6x1_S16384x6x128_2_0_n_n_0_2_1128 tb ix (ix3 r a l)
      = tb (ix2 ⟨min (ix (ix3 r a 0)).toInt.toNat 99999, by omega⟩ l) := by
  unfold Host.gather
  refine congrArg tb (funext fun b => Fin.ext ?_)
  match b with
  | ⟨0, _⟩ =>
    show GatherDims.start _ _ ix 0 + GatherDims.batchCoord _ _ 0 + GatherDims.offCoord _ _ 0 = min (ix (ix3 r a 0)).toInt.toNat 99999
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S100000x128_S16384x6x1_S16384x6x128_2_0_n_n_0_2_1128.startIndexMap from List.mem_singleton.mpr rfl)]
    refine congrArg (fun i => min (ix i).toInt.toNat 99999) (funext fun e => Fin.ext ?_)
    match e with
    | ⟨0, _⟩ => rfl
    | ⟨1, _⟩ => rfl
    | ⟨2, _⟩ => rfl
  | ⟨1, _⟩ =>
    show GatherDims.start _ _ ix 1 + GatherDims.batchCoord _ _ 1 + GatherDims.offCoord _ _ 1 = l.val
    rw [GatherDims.batchCoord_eq_zero _ _ _ List.not_mem_nil]
    unfold GatherDims.start
    rw [dif_neg (show (1 : Fin 2) ∉ gather_S100000x128_S16384x6x1_S16384x6x128_2_0_n_n_0_2_1128.startIndexMap from fun h => absurd (List.mem_singleton.mp h) (by decide))]
    unfold GatherDims.offCoord
    rw [dif_pos ((GatherDims.mem_sKept _ _).mpr ⟨fun h => absurd (List.mem_singleton.mp h) (by decide), List.not_mem_nil⟩)]
    rw [Nat.zero_add]
    rfl

section InRange

variable (ix : IVec S16384x6 32) (hin : ∀ i, (ix i).toNat < 100000)
include hin

/-- No index is negative. -/
theorem start_apply (r : Fin 16384) (a : Fin 6) : start ix (ix3 r a 0) = ix (ix2 r a) := by
  pointwise [start]
  have h : ¬ (IntOp.cmpi .slt (ix (ix2 r a)) 0#32 = 1#1) := by
    rw [IntOp.cmpi_slt, toInt_of_lt (hin _)]
    simp
  rw [ValueIdx.eq_zero_of_ne_one h, ValueIdx.select_zero]

/-- None is masked. -/
theorem mask_apply (r : Fin 16384) (a : Fin 6) : mask ix (ix2 r a) = 1#1 := by
  unfold mask
  refine Host.reduce_andi_one _ _ _ _ _ rfl fun i => ?_
  obtain ⟨r, a, z, rfl⟩ : ∃ (r : Fin 16384) (a : Fin 6) (z : Fin 1), i = ix3 r a z := ⟨i 0, i 1, i 2, by
    funext e
    match e with
    | ⟨0, _⟩ => rfl
    | ⟨1, _⟩ => rfl
    | ⟨2, _⟩ => rfl⟩
  obtain rfl : z = 0 := Subsingleton.elim _ _
  refine IntOp.andi_eq_one.2 ⟨IntOp.cmpi_sge.2 ?_, IntOp.cmpi_sle.2 ?_⟩
  · rw [start_apply ix hin, toInt_of_lt (hin _)]
    exact Int.natCast_nonneg _
  · rw [start_apply ix hin, toInt_of_lt (hin _)]
    have := hin (ix2 r a)
    show _ ≤ (99999#32 : BitVec 32).toInt
    rw [show (99999#32 : BitVec 32).toInt = 99999 from by decide]
    omega

/-- Entry `j` of example `r`: entry `j % 128` of the row that index `j / 128` of the example names. -/
theorem take_apply (tb : FVec Ideal S100000x128 .f32) (r : Fin 16384) (j : Fin 768) :
    take tb ix (ix2 r j)
      = tb (ix2 ⟨(ix (ix2 r ⟨j.val / 128, by omega⟩)).toNat, hin _⟩ ⟨j.val % 128, by omega⟩) := by
  pointwise [take]
  rw [mask_apply ix hin, ValueIdx.select_one, gather_apply]
  refine congrArg (fun q => tb (ix2 q _)) (Fin.ext ?_)
  show min (start ix (ix3 r _ 0)).toInt.toNat 99999 = _
  have h := hin (ix2 r ⟨j.val / 128, by omega⟩)
  rw [start_apply ix hin, toInt_of_lt h, Int.toNat_natCast]
  exact min_eq_left (by omega)

end InRange

end Cert.Proof.Value

end
-- ==== Proof.Value.Pay.lean ====
/-
  What the TensorCore kernel writes of one block of rows, entry by entry: the network of that row.
-/
module

public import proofs.«01_k».proof.Proof.Gen.KernelIdeal.Skeleton
public import proofs.«01_k».proof.Proof.Value.Row

@[expose] public section

noncomputable section

namespace Cert.Proof.Value

open Idealize.ShloMosaic Cert.KernelIdeal

variable [Cert.KernelIdeal.Facts]

/-- The kernel's block at row `p` and output `o`. -/
theorem pay_apply (x : FVec Ideal S1024x768 .f32) (w1 : FVec Ideal S768x128 .f32) (b1 : FVec Ideal S1x128 .f32)
    (w2 : FVec Ideal S128x91 .f32) (b2 : FVec Ideal S1x91 .f32) (p : Fin 1024) (o : Fin 91) :
    Cert.KernelIdeal.Gen.k1_pay1 (F := Ideal) x w1 b1 w2 b2 (ix2 p o)
      = lsm (lgt (fun j => x (ix2 p j)) (fun j k => w1 (ix2 j k)) (fun k => b1 (ix2 0 k)) (fun k o => w2 (ix2 k o))
          (fun o => b2 (ix2 0 o))) o := by
  pointwise [Cert.KernelIdeal.Gen.k1_pay1]
  rfl

end Cert.Proof.Value

end
-- ==== Proof.Value.Found.lean ====
/-
  What the TensorCore kernel finds in its arrays, entry by entry: the rows of the table that the indices name, six by six,
  and the weights and biases of the program's arguments.
-/
module

public import proofs.«01_k».proof.Proof.KernelIdeal.Frame
public import proofs.«01_k».proof.Proof.Value.Pay

@[expose] public section

noncomputable section

namespace Cert.Proof.Value

open Idealize.ShloMosaic Idealize.ShloMosaic.TcCoe Cert.KernelIdeal Cert.KernelIdeal.Gen Cert.Proof.KernelIdeal

variable (m : (ℓ : Loc nD τ sig) → Buf (Elt Ideal) ℓ) (c : Dev nD)

/-- The list of indices: index `a` of example `r` stands at `6 r + a`. -/
theorem list_apply (r : Fin 16384) (a : Fin 6) (h : r.val * 6 + a.val < 98304) :
    ixm m c (ix1 ⟨r.val * 6 + a.val, h⟩) = (m ((c.tc : Thread nD τ).loc main_arg0) : S16384x6.Idx → BitVec 32) (ix2 r a) := by
  rw [ixm_apply]
  pointwise

/-- The table. -/
theorem table_eq : tbm m c = m ((c.tc : Thread nD τ).loc main_arg1) := by
  unfold tbm W1
  rw [StableHlo.reshape_result_ne (h := by decide)]
  rfl

/-- The gathered rows, six by six. -/
theorem found_x (hin : ∀ i, ((m ((c.tc : Thread nD τ).loc main_arg0) : S16384x6.Idx → BitVec 32) i).toNat < 100000) (r : Fin 16384) (j : Fin 768) :
    (Xm m c main_v2 : S16384x768.Idx → EReal) (ix2 r j)
      = (m ((c.tc : Thread nD τ).loc main_arg1) : S100000x128.Idx → EReal)
          (ix2 ⟨((m ((c.tc : Thread nD τ).loc main_arg0) : S16384x6.Idx → BitVec 32) (ix2 r ⟨j.val / 128, by omega⟩)).toNat, hin _⟩
            ⟨j.val % 128, by omega⟩) := by
  unfold Xm W5
  rw [StableHlo.reshape_result_ne (h := by decide)]
  unfold W4
  rw [StableHlo.reshape_result_ne (h := by decide)]
  unfold W3
  rw [StableHlo.reshape_result]
  unfold W2
  rw [Function.update_self]
  show shapeCast S16384x768 (gath (tbm m c) (ixm m c) : S98304x128.Idx → EReal) _ (ix2 r j) = _
  pointwise
  rw [table_eq]
  unfold gath
  refine congrArg (m ((c.tc : Thread nD τ).loc main_arg1)) (funext fun b => ?_)
  match b with
  | ⟨0, _⟩ =>
    refine Fin.ext ?_
    show (ixm m c _).toNat % 100000 = _
    refine Eq.trans (congrArg (fun v : BitVec 32 => v.toNat % 100000) (Eq.trans (congrArg (ixm m c) (funext fun e => ?_))
      (list_apply m c r ⟨j.val / 128, by omega⟩ (by have := r.isLt; have := j.isLt; show r.val * 6 + j.val / 128 < 98304; omega))))
      (Nat.mod_eq_of_lt (hin (ix2 r ⟨j.val / 128, by omega⟩)))
    match e with
    | ⟨0, _⟩ => rfl
  | ⟨1, _⟩ => rfl

/-- The first layer's weights. -/
theorem found_w1 : Xm m c main_arg2 = m ((c.tc : Thread nD τ).loc main_arg2) := by
  rw [← Ym_ne m c main_arg2 (by decide)]
  exact Ym_arg m c main_arg2 (by decide) (by decide) (by decide) (by decide) (by decide) (by decide)

/-- The second layer's weights. -/
theorem found_w2 : Xm m c main_arg4 = m ((c.tc : Thread nD τ).loc main_arg4) := by
  rw [← Ym_ne m c main_arg4 (by decide)]
  exact Ym_arg m c main_arg4 (by decide) (by decide) (by decide) (by decide) (by decide) (by decide)

/-- The first layer's biases. -/
theorem found_b1 (k : Fin 128) :
    (Xm m c main_v3 : S1x128.Idx → EReal) (ix2 0 k) = (m ((c.tc : Thread nD τ).loc main_arg3) : S128.Idx → EReal) (ix1 k) := by
  unfold Xm W5
  rw [StableHlo.reshape_result_ne (h := by decide)]
  unfold W4
  rw [StableHlo.reshape_result]
  show shapeCast S1x128 (W3 m c main_arg3 : S128.Idx → EReal) _ (ix2 0 k) = _
  pointwise
  unfold W3
  rw [StableHlo.reshape_result_ne (h := by decide)]
  unfold W2
  rw [Function.update_of_ne (by decide)]
  unfold W1
  rw [StableHlo.reshape_result_ne (h := by decide)]
  rfl

/-- The second layer's biases. -/
theorem found_b2 (o : Fin 91) :
    (Xm m c main_v4 : S1x91.Idx → EReal) (ix2 0 o) = (m ((c.tc : Thread nD τ).loc main_arg5) : S91.Idx → EReal) (ix1 o) := by
  unfold Xm W5
  rw [StableHlo.reshape_result]
  show shapeCast S1x91 (W4 m c main_arg5 : S91.Idx → EReal) _ (ix2 0 o) = _
  pointwise
  unfold W4
  rw [StableHlo.reshape_result_ne (h := by decide)]
  unfold W3
  rw [StableHlo.reshape_result_ne (h := by decide)]
  unfold W2
  rw [Function.update_of_ne (by decide)]
  unfold W1
  rw [StableHlo.reshape_result_ne (h := by decide)]
  rfl

end Cert.Proof.Value

end
-- ==== Proof.Value.Net.lean ====
/-
  The TensorCore call's result, entry by entry: the network of a row of its first operand.
-/
module

public import proofs.«01_k».proof.Proof.KernelIdeal.Segment
public import proofs.«01_k».proof.Proof.Value.Pay

@[expose] public section

noncomputable section

namespace Cert.Proof.Value

open Idealize.ShloMosaic Idealize.ShloMosaic.TcCoe Cert.KernelIdeal Cert.KernelIdeal.Gen Cert.Proof.KernelIdeal

variable (X : (c : Dev nD) → (b : Ref sig .tc) → Buf (Elt Ideal) ((c.tc : Thread nD τ).loc b)) (c : Dev nD) (t : Fin cfg1.N)

/-- Where the operands' blocks at point `t` lie: the first one's 1024 rows from row `1024 t`, the others whole. -/
theorem in_rects : (win1_0.index t 0 * win1_0.size 0 = t.val * 1024 ∧ win1_0.index t 1 * win1_0.size 1 = 0)
    ∧ (win1_1.index t 0 * win1_1.size 0 = 0 ∧ win1_1.index t 1 * win1_1.size 1 = 0)
    ∧ (win1_2.index t 0 * win1_2.size 0 = 0 ∧ win1_2.index t 1 * win1_2.size 1 = 0)
    ∧ (win1_3.index t 0 * win1_3.size 0 = 0 ∧ win1_3.index t 1 * win1_3.size 1 = 0)
    ∧ (win1_4.index t 0 * win1_4.size 0 = 0 ∧ win1_4.index t 1 * win1_4.size 1 = 0) := by
  rcases fin_N1 t with rfl | rfl | rfl | rfl | rfl | rfl | rfl | rfl | rfl | rfl | rfl | rfl | rfl | rfl | rfl | rfl <;> decide +kernel

/-- Row `p` of the first operand's block is row `1024 t + p` of the operand. -/
theorem blk0_apply (p : Fin 1024) (j : Fin 768) (h : t.val * 1024 + p.val < 16384) :
    (blkAt X c 0 t : S1024x768.Idx → EReal) (ix2 p j) = (X c main_v2 : S16384x768.Idx → EReal) (ix2 ⟨t.val * 1024 + p.val, h⟩ j) := by
  show X c main_v2 ((win1_0.rect t).emb (ix2 p j)) = _
  refine congrArg (X c main_v2) (funext fun a => Fin.ext ?_)
  match a with
  | ⟨0, _⟩ =>
    show win1_0.index t 0 * win1_0.size 0 + 1 * p.val = t.val * 1024 + p.val
    rw [(in_rects t).1.1, Nat.one_mul]
  | ⟨1, _⟩ =>
    show win1_0.index t 1 * win1_0.size 1 + 1 * j.val = j.val
    rw [(in_rects t).1.2, Nat.one_mul, Nat.zero_add]

/-- The first layer's weights are whole at every point. -/
theorem blk1_apply (j : Fin 768) (k : Fin 128) :
    (blkAt X c 1 t : S768x128.Idx → EReal) (ix2 j k) = (X c main_arg2 : S768x128.Idx → EReal) (ix2 j k) := by
  show X c main_arg2 ((win1_1.rect t).emb (ix2 j k)) = _
  refine congrArg (X c main_arg2) (funext fun a => Fin.ext ?_)
  match a with
  | ⟨0, _⟩ =>
    show win1_1.index t 0 * win1_1.size 0 + 1 * j.val = j.val
    rw [(in_rects t).2.1.1, Nat.one_mul, Nat.zero_add]
  | ⟨1, _⟩ =>
    show win1_1.index t 1 * win1_1.size 1 + 1 * k.val = k.val
    rw [(in_rects t).2.1.2, Nat.one_mul, Nat.zero_add]

/-- So are its biases, -/
theorem blk2_apply (k : Fin 128) :
    (blkAt X c 2 t : S1x128.Idx → EReal) (ix2 0 k) = (X c main_v3 : S1x128.Idx → EReal) (ix2 0 k) := by
  show X c main_v3 ((win1_2.rect t).emb (ix2 0 k)) = _
  refine congrArg (X c main_v3) (funext fun a => Fin.ext ?_)
  match a with
  | ⟨0, _⟩ =>
    show win1_2.index t 0 * win1_2.size 0 + 1 * 0 = 0
    rw [(in_rects t).2.2.1.1]
  | ⟨1, _⟩ =>
    show win1_2.index t 1 * win1_2.size 1 + 1 * k.val = k.val
    rw [(in_rects t).2.2.1.2, Nat.one_mul, Nat.zero_add]

/-- the second layer's weights -/
theorem blk3_apply (k : Fin 128) (o : Fin 91) :
    (blkAt X c 3 t : S128x91.Idx → EReal) (ix2 k o) = (X c main_arg4 : S128x91.Idx → EReal) (ix2 k o) := by
  show X c main_arg4 ((win1_3.rect t).emb (ix2 k o)) = _
  refine congrArg (X c main_arg4) (funext fun a => Fin.ext ?_)
  match a with
  | ⟨0, _⟩ =>
    show win1_3.index t 0 * win1_3.size 0 + 1 * k.val = k.val
    rw [(in_rects t).2.2.2.1.1, Nat.one_mul, Nat.zero_add]
  | ⟨1, _⟩ =>
    show win1_3.index t 1 * win1_3.size 1 + 1 * o.val = o.val
    rw [(in_rects t).2.2.2.1.2, Nat.one_mul, Nat.zero_add]

/-- and its biases. -/
theorem blk4_apply (o : Fin 91) :
    (blkAt X c 4 t : S1x91.Idx → EReal) (ix2 0 o) = (X c main_v4 : S1x91.Idx → EReal) (ix2 0 o) := by
  show X c main_v4 ((win1_4.rect t).emb (ix2 0 o)) = _
  refine congrArg (X c main_v4) (funext fun a => Fin.ext ?_)
  match a with
  | ⟨0, _⟩ =>
    show win1_4.index t 0 * win1_4.size 0 + 1 * 0 = 0
    rw [(in_rects t).2.2.2.2.1]
  | ⟨1, _⟩ =>
    show win1_4.index t 1 * win1_4.size 1 + 1 * o.val = o.val
    rw [(in_rects t).2.2.2.2.2, Nat.one_mul, Nat.zero_add]

/-- The result at row `r` and output `o`. -/
theorem net_apply (r : Fin 16384) (o : Fin 91) :
    (net X c : S16384x91.Idx → EReal) (ix2 r o)
      = lsm (lgt (fun j => (X c main_v2 : S16384x768.Idx → EReal) (ix2 r j)) (fun j k => (X c main_arg2 : S768x128.Idx → EReal) (ix2 j k))
          (fun k => (X c main_v3 : S1x128.Idx → EReal) (ix2 0 k)) (fun k o => (X c main_arg4 : S128x91.Idx → EReal) (ix2 k o))
          (fun o => (X c main_v4 : S1x91.Idx → EReal) (ix2 0 o))) o := by
  have e : (fun | 0 => ⟨r.val % 1024, Nat.mod_lt _ (by decide)⟩ | 1 => o : S1024x91.Idx) = ix2 ⟨r.val % 1024, Nat.mod_lt _ (by decide)⟩ o :=
    funext fun a => match a with | ⟨0, _⟩ => rfl | ⟨1, _⟩ => rfl
  show outAt X c (ptOf r) (fun | 0 => ⟨r.val % 1024, Nat.mod_lt _ (by decide)⟩ | 1 => o : S1024x91.Idx) = _
  rw [e]
  unfold outAt
  refine (pay_apply _ _ _ _ _ _ _).trans ?_
  have hr : (ptOf r).val * 1024 + r.val % 1024 = r.val := by
    show r.val / 1024 * 1024 + r.val % 1024 = r.val
    omega
  have h0 : ∀ j : Fin 768, (blkAt X c 0 (ptOf r) : S1024x768.Idx → EReal) (ix2 ⟨r.val % 1024, Nat.mod_lt _ (by decide)⟩ j)
      = (X c main_v2 : S16384x768.Idx → EReal) (ix2 r j) := fun j =>
    (blk0_apply X c (ptOf r) _ j (hr.trans_lt r.isLt)).trans
      (congrArg (fun q => (X c main_v2 : S16384x768.Idx → EReal) (ix2 q j)) (Fin.ext hr))
  rw [funext h0, funext fun j => funext (blk1_apply X c (ptOf r) j), funext (blk2_apply X c (ptOf r)),
    funext fun k => funext (blk3_apply X c (ptOf r) k), funext (blk4_apply X c (ptOf r))]

end Cert.Proof.Value

end
-- ==== Proof.Value.Equal.lean ====
/-
  The kernel's result is the reference's: from the same arguments, each index naming a row of the table, both are the
  network of the same rows.
-/
module

public import proofs.«01_k».proof.Proof.Value.Take
public import proofs.«01_k».proof.Proof.Value.Found
public import proofs.«01_k».proof.Proof.Value.Net

@[expose] public section

noncomputable section

namespace Cert.Proof.Value

open Idealize.ShloMosaic Idealize.ShloMosaic.TcCoe

/-- The kernel's memories and the reference's, and their devices. -/
abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ
abbrev KDev : Type := Dev Cert.KernelIdeal.nD
abbrev RDev : Type := Dev Cert.ReferenceIdeal.nD

/-- The reference's composed term by its parts. -/
theorem res_eq (m' : RMem) (c : RDev) :
    Cert.ReferenceIdeal.Value.res_main_v11 m' c
      = norm (outs (take (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg0)))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))) := by
  rw [Cert.ReferenceIdeal.Value.res_main_v11]
  rfl

open Cert.KernelIdeal in
/-- The reference's function of the kernel's arguments is what the kernel writes. -/
theorem value_eq (m : KMem) (c : KDev)
    (hin : ∀ i, ((m ((c.tc : Thread nD τ).loc main_arg0) : S16384x6.Idx → BitVec 32) i).toNat < 100000) :
    norm (outs (take (m ((c.tc : Thread nD τ).loc main_arg1)) (m ((c.tc : Thread nD τ).loc main_arg0)))
        (m ((c.tc : Thread nD τ).loc main_arg2)) (m ((c.tc : Thread nD τ).loc main_arg3)) (m ((c.tc : Thread nD τ).loc main_arg4))
        (m ((c.tc : Thread nD τ).loc main_arg5)))
      = Cert.Proof.KernelIdeal.net (Cert.Proof.KernelIdeal.Xm m) c := by
  funext i
  obtain ⟨r, o, rfl⟩ : ∃ (r : Fin 16384) (o : Fin 91), i = ix2 r o := ⟨i 0, i 1, by
    funext e
    match e with
    | ⟨0, _⟩ => rfl
    | ⟨1, _⟩ => rfl⟩
  refine (norm_apply _ r o).trans ?_
  rw [funext (outs_apply _ _ _ _ _ r)]
  refine Eq.trans ?_ (net_apply _ c r o).symm
  rw [funext (fun j => found_x m c hin r j), funext (fun k => found_b1 m c k), funext (fun o => found_b2 m c o), found_w1, found_w2]
  rw [funext (fun j => take_apply _ hin _ r j)]

end Cert.Proof.Value

end
-- ==== Proof.Algebraic.lean ====
/-
  The value claim: over exact numbers, the kernel's result is the reference's.
-/
module

public import proofs.«01_k».proof.Proof.Value.Equal

@[expose] public section

noncomputable section

namespace Cert.Proof

open Idealize.ShloMosaic Idealize.SL.Sem

/-- Both end at the network of the rows that the indices name. -/
theorem algebraic : Cert.algebraic_KernelIdeal_ReferenceIdeal := fun m ρ m' ρ' hpre hagree => by
  have hin := fun c i => Rows.lt_of_pre _ _ _ _ _ _ (hpre c) i
  refine ⟨fun c => KernelIdeal.net (KernelIdeal.Xm m) c,
    (θ_run Cert.KernelIdeal.defs _ _).mono (fun _ h c => ⟨h.2.1 c, h.1 c⟩) (KernelIdeal.run_args m ρ (KernelIdeal.inRange_of m hin)),
    (θ_run Cert.ReferenceIdeal.defs _ _).mono (fun _ h c => ⟨(h c).1.trans ?_, (h c).2⟩) (Cert.ReferenceIdeal.Value.run (F := Ideal) m' ρ')⟩
  rw [Value.res_eq, (hagree c).1, (hagree c).2.1, (hagree c).2.2.1, (hagree c).2.2.2.1, (hagree c).2.2.2.2.1, (hagree c).2.2.2.2.2]
  exact Value.value_eq m c (hin c)

end Cert.Proof

end
-- ==== Proof.lean ====
/-
  The proof of `Cert.Claim`: its parts, each proved in its own module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Kernel.Frame
public import proofs.«01_k».proof.Proof.KernelIdeal.Frame
public import proofs.«01_k».proof.Proof.ReferenceIdeal.Frame
public import proofs.«01_k».proof.Proof.Algebraic
public import Idealize.ShloMosaic.Adequacy
public import Idealize.ShloMosaic.Init

@[expose] public section

noncomputable section

namespace Cert.Proof

/-- The kernel at either instance and the reference run, end with their arguments unchanged and leave every semaphore at
    zero, and over exact numbers the kernel's result is the reference's. -/
theorem claim : Cert.Claim :=
  ⟨Cert.Kernel.Gen.facts, Cert.KernelIdeal.Gen.facts, Cert.ReferenceIdeal.Gen.facts, Cert.Pre_in_range.Gen.facts,
    Kernel.frame, KernelIdeal.frame, ReferenceIdeal.frame, ReferenceIdeal.frame_in_range, trivial, algebraic⟩

end Cert.Proof

end
